-- ==== Defs.lean ====
def Pre_Kernel [hPre_finite_x_Kernel : Cert.Pre_finite_x_Kernel.Facts] (m : (ℓ : Loc Cert.Kernel.nD Cert.Kernel.τ Cert.Kernel.sig) → Buf (Elt Bits) ℓ) : Prop :=
  ∀ c : Dev Cert.Kernel.nD,
    (Cert.Pre_finite_x_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_x_Kernel : Cert.Pre_finite_x_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_finite_x_Kernel : Cert.Pre_finite_x_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_finite_x_Kernel : Cert.Pre_finite_x_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_x_Kernel : Cert.Pre_finite_x_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 512, 4096]⟩ 2 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 512, 256]⟩ ⟨3, ![4, 512, 4096]⟩ 2 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_x_Kernel : Cert.Pre_finite_x_Kernel.Facts) (hPre_finite_x_ReferenceIdeal : Cert.Pre_finite_x_ReferenceIdeal.Facts),
    quiescent_Kernel (hKernel := hKernel) (hPre_finite_x_Kernel := hPre_finite_x_Kernel)
    ∧ quiescent_KernelIdeal (hKernelIdeal := hKernelIdeal) (hPre_finite_x_Kernel := hPre_finite_x_Kernel)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal (hKernelIdeal := hKernelIdeal) (hReferenceIdeal := hReferenceIdeal) (hPre_finite_x_Kernel := hPre_finite_x_Kernel)
-- ==== Pre_finite_x_Kernel.lean ====
abbrev S4x512x256 : Shape := ⟨3, ![4, 512, 256]⟩
abbrev S4x128 : Shape := ⟨2, ![4, 128]⟩
abbrev S128x256 : Shape := ⟨2, ![128, 256]⟩
abbrev S_ : Shape := ⟨0, ![]⟩

class Facts : Prop where
  bcast_S_S4x512x256 : S_.BroadcastsInDim S4x512x256 (![] : Fin 0 → Fin S4x512x256.rank)

variable [Facts]

def fn {F : FTy → Type} [FloatOps F] (main_arg0 : FVec F S4x512x256 .f32) (main_arg1 : FVec F S4x128 .f32) (main_arg2 : FVec F S128x256 .f32) (main_arg3 : FVec F S128x256 .f32) : IVec S4x512x256 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  main_v2
-- ==== Pre_finite_x_ReferenceIdeal.lean ====
abbrev S4x512x4096 : Shape := ⟨3, ![4, 512, 4096]⟩
abbrev S4x128 : Shape := ⟨2, ![4, 128]⟩
abbrev S128x4096 : Shape := ⟨2, ![128, 4096]⟩
abbrev S_ : Shape := ⟨0, ![]⟩

class Facts : Prop where
  bcast_S_S4x512x4096 : S_.BroadcastsInDim S4x512x4096 (![] : Fin 0 → Fin S4x512x4096.rank)

variable [Facts]

def fn {F : FTy → Type} [FloatOps F] (main_arg0 : FVec F S4x512x4096 .f32) (main_arg1 : FVec F S4x128 .f32) (main_arg2 : FVec F S128x4096 .f32) (main_arg3 : FVec F S128x4096 .f32) : IVec S4x512x4096 1 :=
  let main_v0 : FVec F S4x512x4096 .f32 := Host.absf main_arg0
  let main_cst : FVec F S_ .f32 := constant S_ .f32 0x7F800000#32
  let main_v1 : FVec F S4x512x4096 .f32 := broadcastInDim S4x512x4096 ![] bcast_S_S4x512x4096 main_cst
  let main_v2 : IVec S4x512x4096 1 := cmpf .olt main_v0 main_v1
  main_v2
-- ==== Kernel.lean ====
abbrev S4x512x256 : Shape := ⟨3, ![4, 512, 256]⟩
abbrev S4x128 : Shape := ⟨2, ![4, 128]⟩
abbrev S128x256 : Shape := ⟨2, ![128, 256]⟩
abbrev S16x2x4x512 : Shape := ⟨4, ![16, 2, 4, 512]⟩
abbrev S15 : Shape := ⟨1, ![15]⟩
abbrev S_ : Shape := ⟨0, ![]⟩
abbrev S4x512 : Shape := ⟨2, ![4, 512]⟩
abbrev S1x4x512 : Shape := ⟨3, ![1, 4, 512]⟩
abbrev S2x4x512 : Shape := ⟨3, ![2, 4, 512]⟩
abbrev S1x2x4x512 : Shape := ⟨4, ![1, 2, 4, 512]⟩
abbrev S1 : Shape := ⟨1, ![1]⟩
abbrev S4x256 : Shape := ⟨2, ![4, 256]⟩
abbrev S4x512x1 : Shape := ⟨3, ![4, 512, 1]⟩
abbrev S4x1x256 : Shape := ⟨3, ![4, 1, 256]⟩

abbrev nBuf : Space → Nat
  | .hbm => 5
  | .vmem => 6
  | .smem => 0
  | _ => 0

abbrev bufTy : (tb : Table) → Fin (tcTables nBuf tb) → BufTy
  | .hbm, ⟨0, _⟩ => ⟨S4x512x256, .f32⟩
  | .hbm, ⟨1, _⟩ => ⟨S4x128, .f32⟩
  | .hbm, ⟨2, _⟩ => ⟨S128x256, .f32⟩
  | .hbm, ⟨3, _⟩ => ⟨S128x256, .f32⟩
  | .hbm, ⟨4, _⟩ => ⟨S4x512x256, .f32⟩
  | .local _ .vmem, ⟨0, _⟩ => ⟨S4x512x256, .f32⟩
  | .local _ .vmem, ⟨1, _⟩ => ⟨S4x128, .f32⟩
  | .local _ .vmem, ⟨2, _⟩ => ⟨S128x256, .f32⟩
  | .local _ .vmem, ⟨3, _⟩ => ⟨S128x256, .f32⟩
  | .local _ .vmem, ⟨4, _⟩ => ⟨S4x512x256, .f32⟩
  | .local _ .vmem, ⟨5, _⟩ => ⟨S16x2x4x512, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 2 35 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 1

abbrev nD : Nat := 16
abbrev τ : Topo := Topo.v7x

variable {F : FTy → Type} [FloatOps F]

abbrev grid0 : Pipeline.Grid := .none

def k0_off1 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v12 : Index := Scalar.indexCast v2
  let c0_3 : Index := 0#32
  let c0_4 : Index := 0#32
  let c0_5 : Index := 0#32
  ![v12.toNat, 0, 0, 0]
def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v17 : BitVec 32 := Scalar.addi v2 c1_i32_6
  let c16_i32_7 : BitVec 32 := 16#32
  let c0_i32 : BitVec 32 := 0#32
  let v18 : BitVec 1 := Scalar.cmpi .eq c16_i32_7 c0_i32
  let c1_i32_8 : BitVec 32 := 1#32
  let v19 : BitVec 32 := Scalar.select v18 c1_i32_8 c16_i32_7
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c1_i32_13 : BitVec 32 := 1#32
  let v28 : BitVec 32 := Scalar.muli v27 c1_i32_13
  let v29 : BitVec 32 := Scalar.addi c0_i32_14 v28
  v29.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v30 : BitVec 32 := Scalar.addi v2 c2_i32
  let c16_i32_15 : BitVec 32 := 16#32
  let c0_i32_16 : BitVec 32 := 0#32
  let v31 : BitVec 1 := Scalar.cmpi .eq c16_i32_15 c0_i32_16
  let c1_i32_17 : BitVec 32 := 1#32
  let v32 : BitVec 32 := Scalar.select v31 c1_i32_17 c16_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_22 : BitVec 32 := 1#32
  let v41 : BitVec 32 := Scalar.muli v40 c1_i32_22
  let v42 : BitVec 32 := Scalar.addi c0_i32_23 v41
  v42.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v43 : BitVec 32 := Scalar.addi v2 c3_i32
  let c16_i32_24 : BitVec 32 := 16#32
  let c0_i32_25 : BitVec 32 := 0#32
  let v44 : BitVec 1 := Scalar.cmpi .eq c16_i32_24 c0_i32_25
  let c1_i32_26 : BitVec 32 := 1#32
  let v45 : BitVec 32 := Scalar.select v44 c1_i32_26 c16_i32_24
  let v46 : BitVec 32 := Scalar.remsi v43 v45
  let c0_i32_28 : BitVec 32 := 0#32
  let v48 : BitVec 1 := Scalar.cmpi .slt v46 c0_i32_28
  let c0_i32_29 : BitVec 32 := 0#32
  let v49 : BitVec 1 := Scalar.cmpi .slt v45 c0_i32_29
  let v50 : BitVec 1 := Scalar.xori v48 v49
  let c0_i32_27 : BitVec 32 := 0#32
  let v47 : BitVec 1 := Scalar.cmpi .ne v46 c0_i32_27
  let v51 : BitVec 1 := Scalar.andi v50 v47
  let v52 : BitVec 32 := Scalar.addi v46 v45
  let v53 : BitVec 32 := Scalar.select v51 v52 v46
  let c1_i32_31 : BitVec 32 := 1#32
  let v54 : BitVec 32 := Scalar.muli v53 c1_i32_31
  let v55 : BitVec 32 := Scalar.addi c0_i32_32 v54
  v55.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v56 : BitVec 32 := Scalar.addi v2 c4_i32
  let c16_i32_33 : BitVec 32 := 16#32
  let c0_i32_34 : BitVec 32 := 0#32
  let v57 : BitVec 1 := Scalar.cmpi .eq c16_i32_33 c0_i32_34
  let c1_i32_35 : BitVec 32 := 1#32
  let v58 : BitVec 32 := Scalar.select v57 c1_i32_35 c16_i32_33
  let v59 : BitVec 32 := Scalar.remsi v56 v58
  let c0_i32_37 : BitVec 32 := 0#32
  let v61 : BitVec 1 := Scalar.cmpi .slt v59 c0_i32_37
  let c0_i32_38 : BitVec 32 := 0#32
  let v62 : BitVec 1 := Scalar.cmpi .slt v58 c0_i32_38
  let v63 : BitVec 1 := Scalar.xori v61 v62
  let c0_i32_36 : BitVec 32 := 0#32
  let v60 : BitVec 1 := Scalar.cmpi .ne v59 c0_i32_36
  let v64 : BitVec 1 := Scalar.andi v63 v60
  let v65 : BitVec 32 := Scalar.addi v59 v58
  let v66 : BitVec 32 := Scalar.select v64 v65 v59
  let c1_i32_40 : BitVec 32 := 1#32
  let v67 : BitVec 32 := Scalar.muli v66 c1_i32_40
  let v68 : BitVec 32 := Scalar.addi c0_i32_41 v67
  v68.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v69 : BitVec 32 := Scalar.addi v2 c5_i32
  let c16_i32_42 : BitVec 32 := 16#32
  let c0_i32_43 : BitVec 32 := 0#32
  let v70 : BitVec 1 := Scalar.cmpi .eq c16_i32_42 c0_i32_43
  let c1_i32_44 : BitVec 32 := 1#32
  let v71 : BitVec 32 := Scalar.select v70 c1_i32_44 c16_i32_42
  let v72 : BitVec 32 := Scalar.remsi v69 v71
  let c0_i32_46 : BitVec 32 := 0#32
  let v74 : BitVec 1 := Scalar.cmpi .slt v72 c0_i32_46
  let c0_i32_47 : BitVec 32 := 0#32
  let v75 : BitVec 1 := Scalar.cmpi .slt v71 c0_i32_47
  let v76 : BitVec 1 := Scalar.xori v74 v75
  let c0_i32_45 : BitVec 32 := 0#32
  let v73 : BitVec 1 := Scalar.cmpi .ne v72 c0_i32_45
  let v77 : BitVec 1 := Scalar.andi v76 v73
  let v78 : BitVec 32 := Scalar.addi v72 v71
  let v79 : BitVec 32 := Scalar.select v77 v78 v72
  let c1_i32_49 : BitVec 32 := 1#32
  let v80 : BitVec 32 := Scalar.muli v79 c1_i32_49
  let v81 : BitVec 32 := Scalar.addi c0_i32_50 v80
  v81.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v82 : BitVec 32 := Scalar.addi v2 c6_i32
  let c16_i32_51 : BitVec 32 := 16#32
  let c0_i32_52 : BitVec 32 := 0#32
  let v83 : BitVec 1 := Scalar.cmpi .eq c16_i32_51 c0_i32_52
  let c1_i32_53 : BitVec 32 := 1#32
  let v84 : BitVec 32 := Scalar.select v83 c1_i32_53 c16_i32_51
  let v85 : BitVec 32 := Scalar.remsi v82 v84
  let c0_i32_55 : BitVec 32 := 0#32
  let v87 : BitVec 1 := Scalar.cmpi .slt v85 c0_i32_55
  let c0_i32_56 : BitVec 32 := 0#32
  let v88 : BitVec 1 := Scalar.cmpi .slt v84 c0_i32_56
  let v89 : BitVec 1 := Scalar.xori v87 v88
  let c0_i32_54 : BitVec 32 := 0#32
  let v86 : BitVec 1 := Scalar.cmpi .ne v85 c0_i32_54
  let v90 : BitVec 1 := Scalar.andi v89 v86
  let v91 : BitVec 32 := Scalar.addi v85 v84
  let v92 : BitVec 32 := Scalar.select v90 v91 v85
  let c1_i32_58 : BitVec 32 := 1#32
  let v93 : BitVec 32 := Scalar.muli v92 c1_i32_58
  let v94 : BitVec 32 := Scalar.addi c0_i32_59 v93
  v94.toNat
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v95 : BitVec 32 := Scalar.addi v2 c7_i32
  let c16_i32_60 : BitVec 32 := 16#32
  let c0_i32_61 : BitVec 32 := 0#32
  let v96 : BitVec 1 := Scalar.cmpi .eq c16_i32_60 c0_i32_61
  let c1_i32_62 : BitVec 32 := 1#32
  let v97 : BitVec 32 := Scalar.select v96 c1_i32_62 c16_i32_60
  let v98 : BitVec 32 := Scalar.remsi v95 v97
  let c0_i32_64 : BitVec 32 := 0#32
  let v100 : BitVec 1 := Scalar.cmpi .slt v98 c0_i32_64
  let c0_i32_65 : BitVec 32 := 0#32
  let v101 : BitVec 1 := Scalar.cmpi .slt v97 c0_i32_65
  let v102 : BitVec 1 := Scalar.xori v100 v101
  let c0_i32_63 : BitVec 32 := 0#32
  let v99 : BitVec 1 := Scalar.cmpi .ne v98 c0_i32_63
  let v103 : BitVec 1 := Scalar.andi v102 v99
  let v104 : BitVec 32 := Scalar.addi v98 v97
  let v105 : BitVec 32 := Scalar.select v103 v104 v98
  let c1_i32_67 : BitVec 32 := 1#32
  let v106 : BitVec 32 := Scalar.muli v105 c1_i32_67
  let v107 : BitVec 32 := Scalar.addi c0_i32_68 v106
  v107.toNat
def k0_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v108 : BitVec 32 := Scalar.addi v2 c8_i32
  let c16_i32_69 : BitVec 32 := 16#32
  let c0_i32_70 : BitVec 32 := 0#32
  let v109 : BitVec 1 := Scalar.cmpi .eq c16_i32_69 c0_i32_70
  let c1_i32_71 : BitVec 32 := 1#32
  let v110 : BitVec 32 := Scalar.select v109 c1_i32_71 c16_i32_69
  let v111 : BitVec 32 := Scalar.remsi v108 v110
  let c0_i32_73 : BitVec 32 := 0#32
  let v113 : BitVec 1 := Scalar.cmpi .slt v111 c0_i32_73
  let c0_i32_74 : BitVec 32 := 0#32
  let v114 : BitVec 1 := Scalar.cmpi .slt v110 c0_i32_74
  let v115 : BitVec 1 := Scalar.xori v113 v114
  let c0_i32_72 : BitVec 32 := 0#32
  let v112 : BitVec 1 := Scalar.cmpi .ne v111 c0_i32_72
  let v116 : BitVec 1 := Scalar.andi v115 v112
  let v117 : BitVec 32 := Scalar.addi v111 v110
  let v118 : BitVec 32 := Scalar.select v116 v117 v111
  let c1_i32_76 : BitVec 32 := 1#32
  let v119 : BitVec 32 := Scalar.muli v118 c1_i32_76
  let v120 : BitVec 32 := Scalar.addi c0_i32_77 v119
  v120.toNat
def k0_dev9 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v121 : BitVec 32 := Scalar.addi v2 c9_i32
  let c16_i32_78 : BitVec 32 := 16#32
  let c0_i32_79 : BitVec 32 := 0#32
  let v122 : BitVec 1 := Scalar.cmpi .eq c16_i32_78 c0_i32_79
  let c1_i32_80 : BitVec 32 := 1#32
  let v123 : BitVec 32 := Scalar.select v122 c1_i32_80 c16_i32_78
  let v124 : BitVec 32 := Scalar.remsi v121 v123
  let c0_i32_82 : BitVec 32 := 0#32
  let v126 : BitVec 1 := Scalar.cmpi .slt v124 c0_i32_82
  let c0_i32_83 : BitVec 32 := 0#32
  let v127 : BitVec 1 := Scalar.cmpi .slt v123 c0_i32_83
  let v128 : BitVec 1 := Scalar.xori v126 v127
  let c0_i32_81 : BitVec 32 := 0#32
  let v125 : BitVec 1 := Scalar.cmpi .ne v124 c0_i32_81
  let v129 : BitVec 1 := Scalar.andi v128 v125
  let v130 : BitVec 32 := Scalar.addi v124 v123
  let v131 : BitVec 32 := Scalar.select v129 v130 v124
  let c1_i32_85 : BitVec 32 := 1#32
  let v132 : BitVec 32 := Scalar.muli v131 c1_i32_85
  let v133 : BitVec 32 := Scalar.addi c0_i32_86 v132
  v133.toNat
def k0_dev10 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v134 : BitVec 32 := Scalar.addi v2 c10_i32
  let c16_i32_87 : BitVec 32 := 16#32
  let c0_i32_88 : BitVec 32 := 0#32
  let v135 : BitVec 1 := Scalar.cmpi .eq c16_i32_87 c0_i32_88
  let c1_i32_89 : BitVec 32 := 1#32
  let v136 : BitVec 32 := Scalar.select v135 c1_i32_89 c16_i32_87
  let v137 : BitVec 32 := Scalar.remsi v134 v136
  let c0_i32_91 : BitVec 32 := 0#32
  let v139 : BitVec 1 := Scalar.cmpi .slt v137 c0_i32_91
  let c0_i32_92 : BitVec 32 := 0#32
  let v140 : BitVec 1 := Scalar.cmpi .slt v136 c0_i32_92
  let v141 : BitVec 1 := Scalar.xori v139 v140
  let c0_i32_90 : BitVec 32 := 0#32
  let v138 : BitVec 1 := Scalar.cmpi .ne v137 c0_i32_90
  let v142 : BitVec 1 := Scalar.andi v141 v138
  let v143 : BitVec 32 := Scalar.addi v137 v136
  let v144 : BitVec 32 := Scalar.select v142 v143 v137
  let c1_i32_94 : BitVec 32 := 1#32
  let v145 : BitVec 32 := Scalar.muli v144 c1_i32_94
  let v146 : BitVec 32 := Scalar.addi c0_i32_95 v145
  v146.toNat
def k0_dev11 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v147 : BitVec 32 := Scalar.addi v2 c11_i32
  let c16_i32_96 : BitVec 32 := 16#32
  let c0_i32_97 : BitVec 32 := 0#32
  let v148 : BitVec 1 := Scalar.cmpi .eq c16_i32_96 c0_i32_97
  let c1_i32_98 : BitVec 32 := 1#32
  let v149 : BitVec 32 := Scalar.select v148 c1_i32_98 c16_i32_96
  let v150 : BitVec 32 := Scalar.remsi v147 v149
  let c0_i32_100 : BitVec 32 := 0#32
  let v152 : BitVec 1 := Scalar.cmpi .slt v150 c0_i32_100
  let c0_i32_101 : BitVec 32 := 0#32
  let v153 : BitVec 1 := Scalar.cmpi .slt v149 c0_i32_101
  let v154 : BitVec 1 := Scalar.xori v152 v153
  let c0_i32_99 : BitVec 32 := 0#32
  let v151 : BitVec 1 := Scalar.cmpi .ne v150 c0_i32_99
  let v155 : BitVec 1 := Scalar.andi v154 v151
  let v156 : BitVec 32 := Scalar.addi v150 v149
  let v157 : BitVec 32 := Scalar.select v155 v156 v150
  let c1_i32_103 : BitVec 32 := 1#32
  let v158 : BitVec 32 := Scalar.muli v157 c1_i32_103
  let v159 : BitVec 32 := Scalar.addi c0_i32_104 v158
  v159.toNat
def k0_dev12 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v160 : BitVec 32 := Scalar.addi v2 c12_i32
  let c16_i32_105 : BitVec 32 := 16#32
  let c0_i32_106 : BitVec 32 := 0#32
  let v161 : BitVec 1 := Scalar.cmpi .eq c16_i32_105 c0_i32_106
  let c1_i32_107 : BitVec 32 := 1#32
  let v162 : BitVec 32 := Scalar.select v161 c1_i32_107 c16_i32_105
  let v163 : BitVec 32 := Scalar.remsi v160 v162
  let c0_i32_109 : BitVec 32 := 0#32
  let v165 : BitVec 1 := Scalar.cmpi .slt v163 c0_i32_109
  let c0_i32_110 : BitVec 32 := 0#32
  let v166 : BitVec 1 := Scalar.cmpi .slt v162 c0_i32_110
  let v167 : BitVec 1 := Scalar.xori v165 v166
  let c0_i32_108 : BitVec 32 := 0#32
  let v164 : BitVec 1 := Scalar.cmpi .ne v163 c0_i32_108
  let v168 : BitVec 1 := Scalar.andi v167 v164
  let v169 : BitVec 32 := Scalar.addi v163 v162
  let v170 : BitVec 32 := Scalar.select v168 v169 v163
  let c1_i32_112 : BitVec 32 := 1#32
  let v171 : BitVec 32 := Scalar.muli v170 c1_i32_112
  let v172 : BitVec 32 := Scalar.addi c0_i32_113 v171
  v172.toNat
def k0_dev13 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v173 : BitVec 32 := Scalar.addi v2 c13_i32
  let c16_i32_114 : BitVec 32 := 16#32
  let c0_i32_115 : BitVec 32 := 0#32
  let v174 : BitVec 1 := Scalar.cmpi .eq c16_i32_114 c0_i32_115
  let c1_i32_116 : BitVec 32 := 1#32
  let v175 : BitVec 32 := Scalar.select v174 c1_i32_116 c16_i32_114
  let v176 : BitVec 32 := Scalar.remsi v173 v175
  let c0_i32_118 : BitVec 32 := 0#32
  let v178 : BitVec 1 := Scalar.cmpi .slt v176 c0_i32_118
  let c0_i32_119 : BitVec 32 := 0#32
  let v179 : BitVec 1 := Scalar.cmpi .slt v175 c0_i32_119
  let v180 : BitVec 1 := Scalar.xori v178 v179
  let c0_i32_117 : BitVec 32 := 0#32
  let v177 : BitVec 1 := Scalar.cmpi .ne v176 c0_i32_117
  let v181 : BitVec 1 := Scalar.andi v180 v177
  let v182 : BitVec 32 := Scalar.addi v176 v175
  let v183 : BitVec 32 := Scalar.select v181 v182 v176
  let c1_i32_121 : BitVec 32 := 1#32
  let v184 : BitVec 32 := Scalar.muli v183 c1_i32_121
  let v185 : BitVec 32 := Scalar.addi c0_i32_122 v184
  v185.toNat
def k0_dev14 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v186 : BitVec 32 := Scalar.addi v2 c14_i32
  let c16_i32_123 : BitVec 32 := 16#32
  let c0_i32_124 : BitVec 32 := 0#32
  let v187 : BitVec 1 := Scalar.cmpi .eq c16_i32_123 c0_i32_124
  let c1_i32_125 : BitVec 32 := 1#32
  let v188 : BitVec 32 := Scalar.select v187 c1_i32_125 c16_i32_123
  let v189 : BitVec 32 := Scalar.remsi v186 v188
  let c0_i32_127 : BitVec 32 := 0#32
  let v191 : BitVec 1 := Scalar.cmpi .slt v189 c0_i32_127
  let c0_i32_128 : BitVec 32 := 0#32
  let v192 : BitVec 1 := Scalar.cmpi .slt v188 c0_i32_128
  let v193 : BitVec 1 := Scalar.xori v191 v192
  let c0_i32_126 : BitVec 32 := 0#32
  let v190 : BitVec 1 := Scalar.cmpi .ne v189 c0_i32_126
  let v194 : BitVec 1 := Scalar.andi v193 v190
  let v195 : BitVec 32 := Scalar.addi v189 v188
  let v196 : BitVec 32 := Scalar.select v194 v195 v189
  let c1_i32_130 : BitVec 32 := 1#32
  let v197 : BitVec 32 := Scalar.muli v196 c1_i32_130
  let v198 : BitVec 32 := Scalar.addi c0_i32_131 v197
  v198.toNat
def k0_dev15 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v199 : BitVec 32 := Scalar.addi v2 c15_i32
  let c16_i32_132 : BitVec 32 := 16#32
  let c0_i32_133 : BitVec 32 := 0#32
  let v200 : BitVec 1 := Scalar.cmpi .eq c16_i32_132 c0_i32_133
  let c1_i32_134 : BitVec 32 := 1#32
  let v201 : BitVec 32 := Scalar.select v200 c1_i32_134 c16_i32_132
  let v202 : BitVec 32 := Scalar.remsi v199 v201
  let c0_i32_136 : BitVec 32 := 0#32
  let v204 : BitVec 1 := Scalar.cmpi .slt v202 c0_i32_136
  let c0_i32_137 : BitVec 32 := 0#32
  let v205 : BitVec 1 := Scalar.cmpi .slt v201 c0_i32_137
  let v206 : BitVec 1 := Scalar.xori v204 v205
  let c0_i32_135 : BitVec 32 := 0#32
  let v203 : BitVec 1 := Scalar.cmpi .ne v202 c0_i32_135
  let v207 : BitVec 1 := Scalar.andi v206 v203
  let v208 : BitVec 32 := Scalar.addi v202 v201
  let v209 : BitVec 32 := Scalar.select v207 v208 v202
  let c1_i32_139 : BitVec 32 := 1#32
  let v210 : BitVec 32 := Scalar.muli v209 c1_i32_139
  let v211 : BitVec 32 := Scalar.addi c0_i32_140 v210
  v211.toNat
def k0_off2 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_153 : BitVec 32 := 0#32
  let c0_i32_154 : BitVec 32 := 0#32
  let c0_i32_155 : BitVec 32 := 0#32
  ![v2.toNat, 0, 0, 0]
def k0_dev16 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_142 : BitVec 32 := 1#32
  let v212 : BitVec 32 := Scalar.addi v2 c1_i32_142
  let c16_i32_143 : BitVec 32 := 16#32
  let c0_i32_144 : BitVec 32 := 0#32
  let v213 : BitVec 1 := Scalar.cmpi .eq c16_i32_143 c0_i32_144
  let c1_i32_145 : BitVec 32 := 1#32
  let v214 : BitVec 32 := Scalar.select v213 c1_i32_145 c16_i32_143
  let v215 : BitVec 32 := Scalar.remsi v212 v214
  let c0_i32_147 : BitVec 32 := 0#32
  let v217 : BitVec 1 := Scalar.cmpi .slt v215 c0_i32_147
  let c0_i32_148 : BitVec 32 := 0#32
  let v218 : BitVec 1 := Scalar.cmpi .slt v214 c0_i32_148
  let v219 : BitVec 1 := Scalar.xori v217 v218
  let c0_i32_146 : BitVec 32 := 0#32
  let v216 : BitVec 1 := Scalar.cmpi .ne v215 c0_i32_146
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev17 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_159 : BitVec 32 := 2#32
  let v233 : BitVec 32 := Scalar.addi v2 c2_i32_159
  let c16_i32_160 : BitVec 32 := 16#32
  let c0_i32_161 : BitVec 32 := 0#32
  let v234 : BitVec 1 := Scalar.cmpi .eq c16_i32_160 c0_i32_161
  let c1_i32_162 : BitVec 32 := 1#32
  let v235 : BitVec 32 := Scalar.select v234 c1_i32_162 c16_i32_160
  let v236 : BitVec 32 := Scalar.remsi v233 v235
  let c0_i32_164 : BitVec 32 := 0#32
  let v238 : BitVec 1 := Scalar.cmpi .slt v236 c0_i32_164
  let c0_i32_165 : BitVec 32 := 0#32
  let v239 : BitVec 1 := Scalar.cmpi .slt v235 c0_i32_165
  let v240 : BitVec 1 := Scalar.xori v238 v239
  let c0_i32_163 : BitVec 32 := 0#32
  let v237 : BitVec 1 := Scalar.cmpi .ne v236 c0_i32_163
  let v241 : BitVec 1 := Scalar.andi v240 v237
  let v242 : BitVec 32 := Scalar.addi v236 v235
  let v243 : BitVec 32 := Scalar.select v241 v242 v236
  let c1_i32_168 : BitVec 32 := 1#32
  let v244 : BitVec 32 := Scalar.muli v243 c1_i32_168
  let v245 : BitVec 32 := Scalar.addi c0_i32_169 v244
  v245.toNat
def k0_dev18 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_176 : BitVec 32 := 3#32
  let v254 : BitVec 32 := Scalar.addi v2 c3_i32_176
  let c16_i32_177 : BitVec 32 := 16#32
  let c0_i32_178 : BitVec 32 := 0#32
  let v255 : BitVec 1 := Scalar.cmpi .eq c16_i32_177 c0_i32_178
  let c1_i32_179 : BitVec 32 := 1#32
  let v256 : BitVec 32 := Scalar.select v255 c1_i32_179 c16_i32_177
  let v257 : BitVec 32 := Scalar.remsi v254 v256
  let c0_i32_181 : BitVec 32 := 0#32
  let v259 : BitVec 1 := Scalar.cmpi .slt v257 c0_i32_181
  let c0_i32_182 : BitVec 32 := 0#32
  let v260 : BitVec 1 := Scalar.cmpi .slt v256 c0_i32_182
  let v261 : BitVec 1 := Scalar.xori v259 v260
  let c0_i32_180 : BitVec 32 := 0#32
  let v258 : BitVec 1 := Scalar.cmpi .ne v257 c0_i32_180
  let v262 : BitVec 1 := Scalar.andi v261 v258
  let v263 : BitVec 32 := Scalar.addi v257 v256
  let v264 : BitVec 32 := Scalar.select v262 v263 v257
  let c1_i32_185 : BitVec 32 := 1#32
  let v265 : BitVec 32 := Scalar.muli v264 c1_i32_185
  let v266 : BitVec 32 := Scalar.addi c0_i32_186 v265
  v266.toNat
def k0_dev19 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_193 : BitVec 32 := 4#32
  let v275 : BitVec 32 := Scalar.addi v2 c4_i32_193
  let c16_i32_194 : BitVec 32 := 16#32
  let c0_i32_195 : BitVec 32 := 0#32
  let v276 : BitVec 1 := Scalar.cmpi .eq c16_i32_194 c0_i32_195
  let c1_i32_196 : BitVec 32 := 1#32
  let v277 : BitVec 32 := Scalar.select v276 c1_i32_196 c16_i32_194
  let v278 : BitVec 32 := Scalar.remsi v275 v277
  let c0_i32_198 : BitVec 32 := 0#32
  let v280 : BitVec 1 := Scalar.cmpi .slt v278 c0_i32_198
  let c0_i32_199 : BitVec 32 := 0#32
  let v281 : BitVec 1 := Scalar.cmpi .slt v277 c0_i32_199
  let v282 : BitVec 1 := Scalar.xori v280 v281
  let c0_i32_197 : BitVec 32 := 0#32
  let v279 : BitVec 1 := Scalar.cmpi .ne v278 c0_i32_197
  let v283 : BitVec 1 := Scalar.andi v282 v279
  let v284 : BitVec 32 := Scalar.addi v278 v277
  let v285 : BitVec 32 := Scalar.select v283 v284 v278
  let c1_i32_202 : BitVec 32 := 1#32
  let v286 : BitVec 32 := Scalar.muli v285 c1_i32_202
  let v287 : BitVec 32 := Scalar.addi c0_i32_203 v286
  v287.toNat
def k0_dev20 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_210 : BitVec 32 := 5#32
  let v296 : BitVec 32 := Scalar.addi v2 c5_i32_210
  let c16_i32_211 : BitVec 32 := 16#32
  let c0_i32_212 : BitVec 32 := 0#32
  let v297 : BitVec 1 := Scalar.cmpi .eq c16_i32_211 c0_i32_212
  let c1_i32_213 : BitVec 32 := 1#32
  let v298 : BitVec 32 := Scalar.select v297 c1_i32_213 c16_i32_211
  let v299 : BitVec 32 := Scalar.remsi v296 v298
  let c0_i32_215 : BitVec 32 := 0#32
  let v301 : BitVec 1 := Scalar.cmpi .slt v299 c0_i32_215
  let c0_i32_216 : BitVec 32 := 0#32
  let v302 : BitVec 1 := Scalar.cmpi .slt v298 c0_i32_216
  let v303 : BitVec 1 := Scalar.xori v301 v302
  let c0_i32_214 : BitVec 32 := 0#32
  let v300 : BitVec 1 := Scalar.cmpi .ne v299 c0_i32_214
  let v304 : BitVec 1 := Scalar.andi v303 v300
  let v305 : BitVec 32 := Scalar.addi v299 v298
  let v306 : BitVec 32 := Scalar.select v304 v305 v299
  let c1_i32_219 : BitVec 32 := 1#32
  let v307 : BitVec 32 := Scalar.muli v306 c1_i32_219
  let v308 : BitVec 32 := Scalar.addi c0_i32_220 v307
  v308.toNat
def k0_dev21 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_227 : BitVec 32 := 6#32
  let v317 : BitVec 32 := Scalar.addi v2 c6_i32_227
  let c16_i32_228 : BitVec 32 := 16#32
  let c0_i32_229 : BitVec 32 := 0#32
  let v318 : BitVec 1 := Scalar.cmpi .eq c16_i32_228 c0_i32_229
  let c1_i32_230 : BitVec 32 := 1#32
  let v319 : BitVec 32 := Scalar.select v318 c1_i32_230 c16_i32_228
  let v320 : BitVec 32 := Scalar.remsi v317 v319
  let c0_i32_232 : BitVec 32 := 0#32
  let v322 : BitVec 1 := Scalar.cmpi .slt v320 c0_i32_232
  let c0_i32_233 : BitVec 32 := 0#32
  let v323 : BitVec 1 := Scalar.cmpi .slt v319 c0_i32_233
  let v324 : BitVec 1 := Scalar.xori v322 v323
  let c0_i32_231 : BitVec 32 := 0#32
  let v321 : BitVec 1 := Scalar.cmpi .ne v320 c0_i32_231
  let v325 : BitVec 1 := Scalar.andi v324 v321
  let v326 : BitVec 32 := Scalar.addi v320 v319
  let v327 : BitVec 32 := Scalar.select v325 v326 v320
  let c1_i32_236 : BitVec 32 := 1#32
  let v328 : BitVec 32 := Scalar.muli v327 c1_i32_236
  let v329 : BitVec 32 := Scalar.addi c0_i32_237 v328
  v329.toNat
def k0_dev22 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_244 : BitVec 32 := 7#32
  let v338 : BitVec 32 := Scalar.addi v2 c7_i32_244
  let c16_i32_245 : BitVec 32 := 16#32
  let c0_i32_246 : BitVec 32 := 0#32
  let v339 : BitVec 1 := Scalar.cmpi .eq c16_i32_245 c0_i32_246
  let c1_i32_247 : BitVec 32 := 1#32
  let v340 : BitVec 32 := Scalar.select v339 c1_i32_247 c16_i32_245
  let v341 : BitVec 32 := Scalar.remsi v338 v340
  let c0_i32_249 : BitVec 32 := 0#32
  let v343 : BitVec 1 := Scalar.cmpi .slt v341 c0_i32_249
  let c0_i32_250 : BitVec 32 := 0#32
  let v344 : BitVec 1 := Scalar.cmpi .slt v340 c0_i32_250
  let v345 : BitVec 1 := Scalar.xori v343 v344
  let c0_i32_248 : BitVec 32 := 0#32
  let v342 : BitVec 1 := Scalar.cmpi .ne v341 c0_i32_248
  let v346 : BitVec 1 := Scalar.andi v345 v342
  let v347 : BitVec 32 := Scalar.addi v341 v340
  let v348 : BitVec 32 := Scalar.select v346 v347 v341
  let c1_i32_253 : BitVec 32 := 1#32
  let v349 : BitVec 32 := Scalar.muli v348 c1_i32_253
  let v350 : BitVec 32 := Scalar.addi c0_i32_254 v349
  v350.toNat
def k0_dev23 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_261 : BitVec 32 := 8#32
  let v359 : BitVec 32 := Scalar.addi v2 c8_i32_261
  let c16_i32_262 : BitVec 32 := 16#32
  let c0_i32_263 : BitVec 32 := 0#32
  let v360 : BitVec 1 := Scalar.cmpi .eq c16_i32_262 c0_i32_263
  let c1_i32_264 : BitVec 32 := 1#32
  let v361 : BitVec 32 := Scalar.select v360 c1_i32_264 c16_i32_262
  let v362 : BitVec 32 := Scalar.remsi v359 v361
  let c0_i32_266 : BitVec 32 := 0#32
  let v364 : BitVec 1 := Scalar.cmpi .slt v362 c0_i32_266
  let c0_i32_267 : BitVec 32 := 0#32
  let v365 : BitVec 1 := Scalar.cmpi .slt v361 c0_i32_267
  let v366 : BitVec 1 := Scalar.xori v364 v365
  let c0_i32_265 : BitVec 32 := 0#32
  let v363 : BitVec 1 := Scalar.cmpi .ne v362 c0_i32_265
  let v367 : BitVec 1 := Scalar.andi v366 v363
  let v368 : BitVec 32 := Scalar.addi v362 v361
  let v369 : BitVec 32 := Scalar.select v367 v368 v362
  let c1_i32_270 : BitVec 32 := 1#32
  let v370 : BitVec 32 := Scalar.muli v369 c1_i32_270
  let v371 : BitVec 32 := Scalar.addi c0_i32_271 v370
  v371.toNat
def k0_dev24 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_278 : BitVec 32 := 9#32
  let v380 : BitVec 32 := Scalar.addi v2 c9_i32_278
  let c16_i32_279 : BitVec 32 := 16#32
  let c0_i32_280 : BitVec 32 := 0#32
  let v381 : BitVec 1 := Scalar.cmpi .eq c16_i32_279 c0_i32_280
  let c1_i32_281 : BitVec 32 := 1#32
  let v382 : BitVec 32 := Scalar.select v381 c1_i32_281 c16_i32_279
  let v383 : BitVec 32 := Scalar.remsi v380 v382
  let c0_i32_283 : BitVec 32 := 0#32
  let v385 : BitVec 1 := Scalar.cmpi .slt v383 c0_i32_283
  let c0_i32_284 : BitVec 32 := 0#32
  let v386 : BitVec 1 := Scalar.cmpi .slt v382 c0_i32_284
  let v387 : BitVec 1 := Scalar.xori v385 v386
  let c0_i32_282 : BitVec 32 := 0#32
  let v384 : BitVec 1 := Scalar.cmpi .ne v383 c0_i32_282
  let v388 : BitVec 1 := Scalar.andi v387 v384
  let v389 : BitVec 32 := Scalar.addi v383 v382
  let v390 : BitVec 32 := Scalar.select v388 v389 v383
  let c1_i32_287 : BitVec 32 := 1#32
  let v391 : BitVec 32 := Scalar.muli v390 c1_i32_287
  let v392 : BitVec 32 := Scalar.addi c0_i32_288 v391
  v392.toNat
def k0_dev25 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_295 : BitVec 32 := 10#32
  let v401 : BitVec 32 := Scalar.addi v2 c10_i32_295
  let c16_i32_296 : BitVec 32 := 16#32
  let c0_i32_297 : BitVec 32 := 0#32
  let v402 : BitVec 1 := Scalar.cmpi .eq c16_i32_296 c0_i32_297
  let c1_i32_298 : BitVec 32 := 1#32
  let v403 : BitVec 32 := Scalar.select v402 c1_i32_298 c16_i32_296
  let v404 : BitVec 32 := Scalar.remsi v401 v403
  let c0_i32_300 : BitVec 32 := 0#32
  let v406 : BitVec 1 := Scalar.cmpi .slt v404 c0_i32_300
  let c0_i32_301 : BitVec 32 := 0#32
  let v407 : BitVec 1 := Scalar.cmpi .slt v403 c0_i32_301
  let v408 : BitVec 1 := Scalar.xori v406 v407
  let c0_i32_299 : BitVec 32 := 0#32
  let v405 : BitVec 1 := Scalar.cmpi .ne v404 c0_i32_299
  let v409 : BitVec 1 := Scalar.andi v408 v405
  let v410 : BitVec 32 := Scalar.addi v404 v403
  let v411 : BitVec 32 := Scalar.select v409 v410 v404
  let c1_i32_304 : BitVec 32 := 1#32
  let v412 : BitVec 32 := Scalar.muli v411 c1_i32_304
  let v413 : BitVec 32 := Scalar.addi c0_i32_305 v412
  v413.toNat
def k0_dev26 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_312 : BitVec 32 := 11#32
  let v422 : BitVec 32 := Scalar.addi v2 c11_i32_312
  let c16_i32_313 : BitVec 32 := 16#32
  let c0_i32_314 : BitVec 32 := 0#32
  let v423 : BitVec 1 := Scalar.cmpi .eq c16_i32_313 c0_i32_314
  let c1_i32_315 : BitVec 32 := 1#32
  let v424 : BitVec 32 := Scalar.select v423 c1_i32_315 c16_i32_313
  let v425 : BitVec 32 := Scalar.remsi v422 v424
  let c0_i32_317 : BitVec 32 := 0#32
  let v427 : BitVec 1 := Scalar.cmpi .slt v425 c0_i32_317
  let c0_i32_318 : BitVec 32 := 0#32
  let v428 : BitVec 1 := Scalar.cmpi .slt v424 c0_i32_318
  let v429 : BitVec 1 := Scalar.xori v427 v428
  let c0_i32_316 : BitVec 32 := 0#32
  let v426 : BitVec 1 := Scalar.cmpi .ne v425 c0_i32_316
  let v430 : BitVec 1 := Scalar.andi v429 v426
  let v431 : BitVec 32 := Scalar.addi v425 v424
  let v432 : BitVec 32 := Scalar.select v430 v431 v425
  let c1_i32_321 : BitVec 32 := 1#32
  let v433 : BitVec 32 := Scalar.muli v432 c1_i32_321
  let v434 : BitVec 32 := Scalar.addi c0_i32_322 v433
  v434.toNat
def k0_dev27 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_329 : BitVec 32 := 12#32
  let v443 : BitVec 32 := Scalar.addi v2 c12_i32_329
  let c16_i32_330 : BitVec 32 := 16#32
  let c0_i32_331 : BitVec 32 := 0#32
  let v444 : BitVec 1 := Scalar.cmpi .eq c16_i32_330 c0_i32_331
  let c1_i32_332 : BitVec 32 := 1#32
  let v445 : BitVec 32 := Scalar.select v444 c1_i32_332 c16_i32_330
  let v446 : BitVec 32 := Scalar.remsi v443 v445
  let c0_i32_334 : BitVec 32 := 0#32
  let v448 : BitVec 1 := Scalar.cmpi .slt v446 c0_i32_334
  let c0_i32_335 : BitVec 32 := 0#32
  let v449 : BitVec 1 := Scalar.cmpi .slt v445 c0_i32_335
  let v450 : BitVec 1 := Scalar.xori v448 v449
  let c0_i32_333 : BitVec 32 := 0#32
  let v447 : BitVec 1 := Scalar.cmpi .ne v446 c0_i32_333
  let v451 : BitVec 1 := Scalar.andi v450 v447
  let v452 : BitVec 32 := Scalar.addi v446 v445
  let v453 : BitVec 32 := Scalar.select v451 v452 v446
  let c1_i32_338 : BitVec 32 := 1#32
  let v454 : BitVec 32 := Scalar.muli v453 c1_i32_338
  let v455 : BitVec 32 := Scalar.addi c0_i32_339 v454
  v455.toNat
def k0_dev28 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_346 : BitVec 32 := 13#32
  let v464 : BitVec 32 := Scalar.addi v2 c13_i32_346
  let c16_i32_347 : BitVec 32 := 16#32
  let c0_i32_348 : BitVec 32 := 0#32
  let v465 : BitVec 1 := Scalar.cmpi .eq c16_i32_347 c0_i32_348
  let c1_i32_349 : BitVec 32 := 1#32
  let v466 : BitVec 32 := Scalar.select v465 c1_i32_349 c16_i32_347
  let v467 : BitVec 32 := Scalar.remsi v464 v466
  let c0_i32_351 : BitVec 32 := 0#32
  let v469 : BitVec 1 := Scalar.cmpi .slt v467 c0_i32_351
  let c0_i32_352 : BitVec 32 := 0#32
  let v470 : BitVec 1 := Scalar.cmpi .slt v466 c0_i32_352
  let v471 : BitVec 1 := Scalar.xori v469 v470
  let c0_i32_350 : BitVec 32 := 0#32
  let v468 : BitVec 1 := Scalar.cmpi .ne v467 c0_i32_350
  let v472 : BitVec 1 := Scalar.andi v471 v468
  let v473 : BitVec 32 := Scalar.addi v467 v466
  let v474 : BitVec 32 := Scalar.select v472 v473 v467
  let c1_i32_355 : BitVec 32 := 1#32
  let v475 : BitVec 32 := Scalar.muli v474 c1_i32_355
  let v476 : BitVec 32 := Scalar.addi c0_i32_356 v475
  v476.toNat
def k0_dev29 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_363 : BitVec 32 := 14#32
  let v485 : BitVec 32 := Scalar.addi v2 c14_i32_363
  let c16_i32_364 : BitVec 32 := 16#32
  let c0_i32_365 : BitVec 32 := 0#32
  let v486 : BitVec 1 := Scalar.cmpi .eq c16_i32_364 c0_i32_365
  let c1_i32_366 : BitVec 32 := 1#32
  let v487 : BitVec 32 := Scalar.select v486 c1_i32_366 c16_i32_364
  let v488 : BitVec 32 := Scalar.remsi v485 v487
  let c0_i32_368 : BitVec 32 := 0#32
  let v490 : BitVec 1 := Scalar.cmpi .slt v488 c0_i32_368
  let c0_i32_369 : BitVec 32 := 0#32
  let v491 : BitVec 1 := Scalar.cmpi .slt v487 c0_i32_369
  let v492 : BitVec 1 := Scalar.xori v490 v491
  let c0_i32_367 : BitVec 32 := 0#32
  let v489 : BitVec 1 := Scalar.cmpi .ne v488 c0_i32_367
  let v493 : BitVec 1 := Scalar.andi v492 v489
  let v494 : BitVec 32 := Scalar.addi v488 v487
  let v495 : BitVec 32 := Scalar.select v493 v494 v488
  let c1_i32_372 : BitVec 32 := 1#32
  let v496 : BitVec 32 := Scalar.muli v495 c1_i32_372
  let v497 : BitVec 32 := Scalar.addi c0_i32_373 v496
  v497.toNat
def k0_dev30 (d0 : Dev nD) : Nat :=
  let c0_i32_390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_380 : BitVec 32 := 15#32
  let v506 : BitVec 32 := Scalar.addi v2 c15_i32_380
  let c16_i32_381 : BitVec 32 := 16#32
  let c0_i32_382 : BitVec 32 := 0#32
  let v507 : BitVec 1 := Scalar.cmpi .eq c16_i32_381 c0_i32_382
  let c1_i32_383 : BitVec 32 := 1#32
  let v508 : BitVec 32 := Scalar.select v507 c1_i32_383 c16_i32_381
  let v509 : BitVec 32 := Scalar.remsi v506 v508
  let c0_i32_385 : BitVec 32 := 0#32
  let v511 : BitVec 1 := Scalar.cmpi .slt v509 c0_i32_385
  let c0_i32_386 : BitVec 32 := 0#32
  let v512 : BitVec 1 := Scalar.cmpi .slt v508 c0_i32_386
  let v513 : BitVec 1 := Scalar.xori v511 v512
  let c0_i32_384 : BitVec 32 := 0#32
  let v510 : BitVec 1 := Scalar.cmpi .ne v509 c0_i32_384
  let v514 : BitVec 1 := Scalar.andi v513 v510
  let v515 : BitVec 32 := Scalar.addi v509 v508
  let v516 : BitVec 32 := Scalar.select v514 v515 v509
  let c1_i32_389 : BitVec 32 := 1#32
  let v517 : BitVec 32 := Scalar.muli v516 c1_i32_389
  let v518 : BitVec 32 := Scalar.addi c0_i32_390 v517
  v518.toNat
def k0_dev31 (d0 : Dev nD) : Nat :=
  let c0_i32_696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_687 : BitVec 32 := 1#32
  let v739 : BitVec 32 := Scalar.addi v2 c1_i32_687
  let c16_i32_688 : BitVec 32 := 16#32
  let c0_i32_689 : BitVec 32 := 0#32
  let v740 : BitVec 1 := Scalar.cmpi .eq c16_i32_688 c0_i32_689
  let c1_i32_690 : BitVec 32 := 1#32
  let v741 : BitVec 32 := Scalar.select v740 c1_i32_690 c16_i32_688
  let v742 : BitVec 32 := Scalar.remsi v739 v741
  let c0_i32_692 : BitVec 32 := 0#32
  let v744 : BitVec 1 := Scalar.cmpi .slt v742 c0_i32_692
  let c0_i32_693 : BitVec 32 := 0#32
  let v745 : BitVec 1 := Scalar.cmpi .slt v741 c0_i32_693
  let v746 : BitVec 1 := Scalar.xori v744 v745
  let c0_i32_691 : BitVec 32 := 0#32
  let v743 : BitVec 1 := Scalar.cmpi .ne v742 c0_i32_691
  let v747 : BitVec 1 := Scalar.andi v746 v743
  let v748 : BitVec 32 := Scalar.addi v742 v741
  let v749 : BitVec 32 := Scalar.select v747 v748 v742
  let c1_i32_695 : BitVec 32 := 1#32
  let v750 : BitVec 32 := Scalar.muli v749 c1_i32_695
  let v751 : BitVec 32 := Scalar.addi c0_i32_696 v750
  v751.toNat
def k0_dev32 (d0 : Dev nD) : Nat :=
  let c0_i32_706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_697 : BitVec 32 := 2#32
  let v752 : BitVec 32 := Scalar.addi v2 c2_i32_697
  let c16_i32_698 : BitVec 32 := 16#32
  let c0_i32_699 : BitVec 32 := 0#32
  let v753 : BitVec 1 := Scalar.cmpi .eq c16_i32_698 c0_i32_699
  let c1_i32_700 : BitVec 32 := 1#32
  let v754 : BitVec 32 := Scalar.select v753 c1_i32_700 c16_i32_698
  let v755 : BitVec 32 := Scalar.remsi v752 v754
  let c0_i32_702 : BitVec 32 := 0#32
  let v757 : BitVec 1 := Scalar.cmpi .slt v755 c0_i32_702
  let c0_i32_703 : BitVec 32 := 0#32
  let v758 : BitVec 1 := Scalar.cmpi .slt v754 c0_i32_703
  let v759 : BitVec 1 := Scalar.xori v757 v758
  let c0_i32_701 : BitVec 32 := 0#32
  let v756 : BitVec 1 := Scalar.cmpi .ne v755 c0_i32_701
  let v760 : BitVec 1 := Scalar.andi v759 v756
  let v761 : BitVec 32 := Scalar.addi v755 v754
  let v762 : BitVec 32 := Scalar.select v760 v761 v755
  let c1_i32_705 : BitVec 32 := 1#32
  let v763 : BitVec 32 := Scalar.muli v762 c1_i32_705
  let v764 : BitVec 32 := Scalar.addi c0_i32_706 v763
  v764.toNat
def k0_dev33 (d0 : Dev nD) : Nat :=
  let c0_i32_716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_707 : BitVec 32 := 3#32
  let v765 : BitVec 32 := Scalar.addi v2 c3_i32_707
  let c16_i32_708 : BitVec 32 := 16#32
  let c0_i32_709 : BitVec 32 := 0#32
  let v766 : BitVec 1 := Scalar.cmpi .eq c16_i32_708 c0_i32_709
  let c1_i32_710 : BitVec 32 := 1#32
  let v767 : BitVec 32 := Scalar.select v766 c1_i32_710 c16_i32_708
  let v768 : BitVec 32 := Scalar.remsi v765 v767
  let c0_i32_712 : BitVec 32 := 0#32
  let v770 : BitVec 1 := Scalar.cmpi .slt v768 c0_i32_712
  let c0_i32_713 : BitVec 32 := 0#32
  let v771 : BitVec 1 := Scalar.cmpi .slt v767 c0_i32_713
  let v772 : BitVec 1 := Scalar.xori v770 v771
  let c0_i32_711 : BitVec 32 := 0#32
  let v769 : BitVec 1 := Scalar.cmpi .ne v768 c0_i32_711
  let v773 : BitVec 1 := Scalar.andi v772 v769
  let v774 : BitVec 32 := Scalar.addi v768 v767
  let v775 : BitVec 32 := Scalar.select v773 v774 v768
  let c1_i32_715 : BitVec 32 := 1#32
  let v776 : BitVec 32 := Scalar.muli v775 c1_i32_715
  let v777 : BitVec 32 := Scalar.addi c0_i32_716 v776
  v777.toNat
def k0_dev34 (d0 : Dev nD) : Nat :=
  let c0_i32_726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_717 : BitVec 32 := 4#32
  let v778 : BitVec 32 := Scalar.addi v2 c4_i32_717
  let c16_i32_718 : BitVec 32 := 16#32
  let c0_i32_719 : BitVec 32 := 0#32
  let v779 : BitVec 1 := Scalar.cmpi .eq c16_i32_718 c0_i32_719
  let c1_i32_720 : BitVec 32 := 1#32
  let v780 : BitVec 32 := Scalar.select v779 c1_i32_720 c16_i32_718
  let v781 : BitVec 32 := Scalar.remsi v778 v780
  let c0_i32_722 : BitVec 32 := 0#32
  let v783 : BitVec 1 := Scalar.cmpi .slt v781 c0_i32_722
  let c0_i32_723 : BitVec 32 := 0#32
  let v784 : BitVec 1 := Scalar.cmpi .slt v780 c0_i32_723
  let v785 : BitVec 1 := Scalar.xori v783 v784
  let c0_i32_721 : BitVec 32 := 0#32
  let v782 : BitVec 1 := Scalar.cmpi .ne v781 c0_i32_721
  let v786 : BitVec 1 := Scalar.andi v785 v782
  let v787 : BitVec 32 := Scalar.addi v781 v780
  let v788 : BitVec 32 := Scalar.select v786 v787 v781
  let c1_i32_725 : BitVec 32 := 1#32
  let v789 : BitVec 32 := Scalar.muli v788 c1_i32_725
  let v790 : BitVec 32 := Scalar.addi c0_i32_726 v789
  v790.toNat
def k0_dev35 (d0 : Dev nD) : Nat :=
  let c0_i32_736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_727 : BitVec 32 := 5#32
  let v791 : BitVec 32 := Scalar.addi v2 c5_i32_727
  let c16_i32_728 : BitVec 32 := 16#32
  let c0_i32_729 : BitVec 32 := 0#32
  let v792 : BitVec 1 := Scalar.cmpi .eq c16_i32_728 c0_i32_729
  let c1_i32_730 : BitVec 32 := 1#32
  let v793 : BitVec 32 := Scalar.select v792 c1_i32_730 c16_i32_728
  let v794 : BitVec 32 := Scalar.remsi v791 v793
  let c0_i32_732 : BitVec 32 := 0#32
  let v796 : BitVec 1 := Scalar.cmpi .slt v794 c0_i32_732
  let c0_i32_733 : BitVec 32 := 0#32
  let v797 : BitVec 1 := Scalar.cmpi .slt v793 c0_i32_733
  let v798 : BitVec 1 := Scalar.xori v796 v797
  let c0_i32_731 : BitVec 32 := 0#32
  let v795 : BitVec 1 := Scalar.cmpi .ne v794 c0_i32_731
  let v799 : BitVec 1 := Scalar.andi v798 v795
  let v800 : BitVec 32 := Scalar.addi v794 v793
  let v801 : BitVec 32 := Scalar.select v799 v800 v794
  let c1_i32_735 : BitVec 32 := 1#32
  let v802 : BitVec 32 := Scalar.muli v801 c1_i32_735
  let v803 : BitVec 32 := Scalar.addi c0_i32_736 v802
  v803.toNat
def k0_dev36 (d0 : Dev nD) : Nat :=
  let c0_i32_746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_737 : BitVec 32 := 6#32
  let v804 : BitVec 32 := Scalar.addi v2 c6_i32_737
  let c16_i32_738 : BitVec 32 := 16#32
  let c0_i32_739 : BitVec 32 := 0#32
  let v805 : BitVec 1 := Scalar.cmpi .eq c16_i32_738 c0_i32_739
  let c1_i32_740 : BitVec 32 := 1#32
  let v806 : BitVec 32 := Scalar.select v805 c1_i32_740 c16_i32_738
  let v807 : BitVec 32 := Scalar.remsi v804 v806
  let c0_i32_742 : BitVec 32 := 0#32
  let v809 : BitVec 1 := Scalar.cmpi .slt v807 c0_i32_742
  let c0_i32_743 : BitVec 32 := 0#32
  let v810 : BitVec 1 := Scalar.cmpi .slt v806 c0_i32_743
  let v811 : BitVec 1 := Scalar.xori v809 v810
  let c0_i32_741 : BitVec 32 := 0#32
  let v808 : BitVec 1 := Scalar.cmpi .ne v807 c0_i32_741
  let v812 : BitVec 1 := Scalar.andi v811 v808
  let v813 : BitVec 32 := Scalar.addi v807 v806
  let v814 : BitVec 32 := Scalar.select v812 v813 v807
  let c1_i32_745 : BitVec 32 := 1#32
  let v815 : BitVec 32 := Scalar.muli v814 c1_i32_745
  let v816 : BitVec 32 := Scalar.addi c0_i32_746 v815
  v816.toNat
def k0_dev37 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_747 : BitVec 32 := 7#32
  let v817 : BitVec 32 := Scalar.addi v2 c7_i32_747
  let c16_i32_748 : BitVec 32 := 16#32
  let c0_i32_749 : BitVec 32 := 0#32
  let v818 : BitVec 1 := Scalar.cmpi .eq c16_i32_748 c0_i32_749
  let c1_i32_750 : BitVec 32 := 1#32
  let v819 : BitVec 32 := Scalar.select v818 c1_i32_750 c16_i32_748
  let v820 : BitVec 32 := Scalar.remsi v817 v819
  let c0_i32_752 : BitVec 32 := 0#32
  let v822 : BitVec 1 := Scalar.cmpi .slt v820 c0_i32_752
  let c0_i32_753 : BitVec 32 := 0#32
  let v823 : BitVec 1 := Scalar.cmpi .slt v819 c0_i32_753
  let v824 : BitVec 1 := Scalar.xori v822 v823
  let c0_i32_751 : BitVec 32 := 0#32
  let v821 : BitVec 1 := Scalar.cmpi .ne v820 c0_i32_751
  let v825 : BitVec 1 := Scalar.andi v824 v821
  let v826 : BitVec 32 := Scalar.addi v820 v819
  let v827 : BitVec 32 := Scalar.select v825 v826 v820
  let c1_i32_755 : BitVec 32 := 1#32
  let v828 : BitVec 32 := Scalar.muli v827 c1_i32_755
  let v829 : BitVec 32 := Scalar.addi c0_i32_756 v828
  v829.toNat
def k0_dev38 (d0 : Dev nD) : Nat :=
  let c0_i32_766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_757 : BitVec 32 := 8#32
  let v830 : BitVec 32 := Scalar.addi v2 c8_i32_757
  let c16_i32_758 : BitVec 32 := 16#32
  let c0_i32_759 : BitVec 32 := 0#32
  let v831 : BitVec 1 := Scalar.cmpi .eq c16_i32_758 c0_i32_759
  let c1_i32_760 : BitVec 32 := 1#32
  let v832 : BitVec 32 := Scalar.select v831 c1_i32_760 c16_i32_758
  let v833 : BitVec 32 := Scalar.remsi v830 v832
  let c0_i32_762 : BitVec 32 := 0#32
  let v835 : BitVec 1 := Scalar.cmpi .slt v833 c0_i32_762
  let c0_i32_763 : BitVec 32 := 0#32
  let v836 : BitVec 1 := Scalar.cmpi .slt v832 c0_i32_763
  let v837 : BitVec 1 := Scalar.xori v835 v836
  let c0_i32_761 : BitVec 32 := 0#32
  let v834 : BitVec 1 := Scalar.cmpi .ne v833 c0_i32_761
  let v838 : BitVec 1 := Scalar.andi v837 v834
  let v839 : BitVec 32 := Scalar.addi v833 v832
  let v840 : BitVec 32 := Scalar.select v838 v839 v833
  let c1_i32_765 : BitVec 32 := 1#32
  let v841 : BitVec 32 := Scalar.muli v840 c1_i32_765
  let v842 : BitVec 32 := Scalar.addi c0_i32_766 v841
  v842.toNat
def k0_dev39 (d0 : Dev nD) : Nat :=
  let c0_i32_776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_767 : BitVec 32 := 9#32
  let v843 : BitVec 32 := Scalar.addi v2 c9_i32_767
  let c16_i32_768 : BitVec 32 := 16#32
  let c0_i32_769 : BitVec 32 := 0#32
  let v844 : BitVec 1 := Scalar.cmpi .eq c16_i32_768 c0_i32_769
  let c1_i32_770 : BitVec 32 := 1#32
  let v845 : BitVec 32 := Scalar.select v844 c1_i32_770 c16_i32_768
  let v846 : BitVec 32 := Scalar.remsi v843 v845
  let c0_i32_772 : BitVec 32 := 0#32
  let v848 : BitVec 1 := Scalar.cmpi .slt v846 c0_i32_772
  let c0_i32_773 : BitVec 32 := 0#32
  let v849 : BitVec 1 := Scalar.cmpi .slt v845 c0_i32_773
  let v850 : BitVec 1 := Scalar.xori v848 v849
  let c0_i32_771 : BitVec 32 := 0#32
  let v847 : BitVec 1 := Scalar.cmpi .ne v846 c0_i32_771
  let v851 : BitVec 1 := Scalar.andi v850 v847
  let v852 : BitVec 32 := Scalar.addi v846 v845
  let v853 : BitVec 32 := Scalar.select v851 v852 v846
  let c1_i32_775 : BitVec 32 := 1#32
  let v854 : BitVec 32 := Scalar.muli v853 c1_i32_775
  let v855 : BitVec 32 := Scalar.addi c0_i32_776 v854
  v855.toNat
def k0_dev40 (d0 : Dev nD) : Nat :=
  let c0_i32_786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_777 : BitVec 32 := 10#32
  let v856 : BitVec 32 := Scalar.addi v2 c10_i32_777
  let c16_i32_778 : BitVec 32 := 16#32
  let c0_i32_779 : BitVec 32 := 0#32
  let v857 : BitVec 1 := Scalar.cmpi .eq c16_i32_778 c0_i32_779
  let c1_i32_780 : BitVec 32 := 1#32
  let v858 : BitVec 32 := Scalar.select v857 c1_i32_780 c16_i32_778
  let v859 : BitVec 32 := Scalar.remsi v856 v858
  let c0_i32_782 : BitVec 32 := 0#32
  let v861 : BitVec 1 := Scalar.cmpi .slt v859 c0_i32_782
  let c0_i32_783 : BitVec 32 := 0#32
  let v862 : BitVec 1 := Scalar.cmpi .slt v858 c0_i32_783
  let v863 : BitVec 1 := Scalar.xori v861 v862
  let c0_i32_781 : BitVec 32 := 0#32
  let v860 : BitVec 1 := Scalar.cmpi .ne v859 c0_i32_781
  let v864 : BitVec 1 := Scalar.andi v863 v860
  let v865 : BitVec 32 := Scalar.addi v859 v858
  let v866 : BitVec 32 := Scalar.select v864 v865 v859
  let c1_i32_785 : BitVec 32 := 1#32
  let v867 : BitVec 32 := Scalar.muli v866 c1_i32_785
  let v868 : BitVec 32 := Scalar.addi c0_i32_786 v867
  v868.toNat
def k0_dev41 (d0 : Dev nD) : Nat :=
  let c0_i32_796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_787 : BitVec 32 := 11#32
  let v869 : BitVec 32 := Scalar.addi v2 c11_i32_787
  let c16_i32_788 : BitVec 32 := 16#32
  let c0_i32_789 : BitVec 32 := 0#32
  let v870 : BitVec 1 := Scalar.cmpi .eq c16_i32_788 c0_i32_789
  let c1_i32_790 : BitVec 32 := 1#32
  let v871 : BitVec 32 := Scalar.select v870 c1_i32_790 c16_i32_788
  let v872 : BitVec 32 := Scalar.remsi v869 v871
  let c0_i32_792 : BitVec 32 := 0#32
  let v874 : BitVec 1 := Scalar.cmpi .slt v872 c0_i32_792
  let c0_i32_793 : BitVec 32 := 0#32
  let v875 : BitVec 1 := Scalar.cmpi .slt v871 c0_i32_793
  let v876 : BitVec 1 := Scalar.xori v874 v875
  let c0_i32_791 : BitVec 32 := 0#32
  let v873 : BitVec 1 := Scalar.cmpi .ne v872 c0_i32_791
  let v877 : BitVec 1 := Scalar.andi v876 v873
  let v878 : BitVec 32 := Scalar.addi v872 v871
  let v879 : BitVec 32 := Scalar.select v877 v878 v872
  let c1_i32_795 : BitVec 32 := 1#32
  let v880 : BitVec 32 := Scalar.muli v879 c1_i32_795
  let v881 : BitVec 32 := Scalar.addi c0_i32_796 v880
  v881.toNat
def k0_dev42 (d0 : Dev nD) : Nat :=
  let c0_i32_806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_797 : BitVec 32 := 12#32
  let v882 : BitVec 32 := Scalar.addi v2 c12_i32_797
  let c16_i32_798 : BitVec 32 := 16#32
  let c0_i32_799 : BitVec 32 := 0#32
  let v883 : BitVec 1 := Scalar.cmpi .eq c16_i32_798 c0_i32_799
  let c1_i32_800 : BitVec 32 := 1#32
  let v884 : BitVec 32 := Scalar.select v883 c1_i32_800 c16_i32_798
  let v885 : BitVec 32 := Scalar.remsi v882 v884
  let c0_i32_802 : BitVec 32 := 0#32
  let v887 : BitVec 1 := Scalar.cmpi .slt v885 c0_i32_802
  let c0_i32_803 : BitVec 32 := 0#32
  let v888 : BitVec 1 := Scalar.cmpi .slt v884 c0_i32_803
  let v889 : BitVec 1 := Scalar.xori v887 v888
  let c0_i32_801 : BitVec 32 := 0#32
  let v886 : BitVec 1 := Scalar.cmpi .ne v885 c0_i32_801
  let v890 : BitVec 1 := Scalar.andi v889 v886
  let v891 : BitVec 32 := Scalar.addi v885 v884
  let v892 : BitVec 32 := Scalar.select v890 v891 v885
  let c1_i32_805 : BitVec 32 := 1#32
  let v893 : BitVec 32 := Scalar.muli v892 c1_i32_805
  let v894 : BitVec 32 := Scalar.addi c0_i32_806 v893
  v894.toNat
def k0_dev43 (d0 : Dev nD) : Nat :=
  let c0_i32_816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_807 : BitVec 32 := 13#32
  let v895 : BitVec 32 := Scalar.addi v2 c13_i32_807
  let c16_i32_808 : BitVec 32 := 16#32
  let c0_i32_809 : BitVec 32 := 0#32
  let v896 : BitVec 1 := Scalar.cmpi .eq c16_i32_808 c0_i32_809
  let c1_i32_810 : BitVec 32 := 1#32
  let v897 : BitVec 32 := Scalar.select v896 c1_i32_810 c16_i32_808
  let v898 : BitVec 32 := Scalar.remsi v895 v897
  let c0_i32_812 : BitVec 32 := 0#32
  let v900 : BitVec 1 := Scalar.cmpi .slt v898 c0_i32_812
  let c0_i32_813 : BitVec 32 := 0#32
  let v901 : BitVec 1 := Scalar.cmpi .slt v897 c0_i32_813
  let v902 : BitVec 1 := Scalar.xori v900 v901
  let c0_i32_811 : BitVec 32 := 0#32
  let v899 : BitVec 1 := Scalar.cmpi .ne v898 c0_i32_811
  let v903 : BitVec 1 := Scalar.andi v902 v899
  let v904 : BitVec 32 := Scalar.addi v898 v897
  let v905 : BitVec 32 := Scalar.select v903 v904 v898
  let c1_i32_815 : BitVec 32 := 1#32
  let v906 : BitVec 32 := Scalar.muli v905 c1_i32_815
  let v907 : BitVec 32 := Scalar.addi c0_i32_816 v906
  v907.toNat
def k0_dev44 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_817 : BitVec 32 := 14#32
  let v908 : BitVec 32 := Scalar.addi v2 c14_i32_817
  let c16_i32_818 : BitVec 32 := 16#32
  let c0_i32_819 : BitVec 32 := 0#32
  let v909 : BitVec 1 := Scalar.cmpi .eq c16_i32_818 c0_i32_819
  let c1_i32_820 : BitVec 32 := 1#32
  let v910 : BitVec 32 := Scalar.select v909 c1_i32_820 c16_i32_818
  let v911 : BitVec 32 := Scalar.remsi v908 v910
  let c0_i32_822 : BitVec 32 := 0#32
  let v913 : BitVec 1 := Scalar.cmpi .slt v911 c0_i32_822
  let c0_i32_823 : BitVec 32 := 0#32
  let v914 : BitVec 1 := Scalar.cmpi .slt v910 c0_i32_823
  let v915 : BitVec 1 := Scalar.xori v913 v914
  let c0_i32_821 : BitVec 32 := 0#32
  let v912 : BitVec 1 := Scalar.cmpi .ne v911 c0_i32_821
  let v916 : BitVec 1 := Scalar.andi v915 v912
  let v917 : BitVec 32 := Scalar.addi v911 v910
  let v918 : BitVec 32 := Scalar.select v916 v917 v911
  let c1_i32_825 : BitVec 32 := 1#32
  let v919 : BitVec 32 := Scalar.muli v918 c1_i32_825
  let v920 : BitVec 32 := Scalar.addi c0_i32_826 v919
  v920.toNat
def k0_dev45 (d0 : Dev nD) : Nat :=
  let c0_i32_836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_827 : BitVec 32 := 15#32
  let v921 : BitVec 32 := Scalar.addi v2 c15_i32_827
  let c16_i32_828 : BitVec 32 := 16#32
  let c0_i32_829 : BitVec 32 := 0#32
  let v922 : BitVec 1 := Scalar.cmpi .eq c16_i32_828 c0_i32_829
  let c1_i32_830 : BitVec 32 := 1#32
  let v923 : BitVec 32 := Scalar.select v922 c1_i32_830 c16_i32_828
  let v924 : BitVec 32 := Scalar.remsi v921 v923
  let c0_i32_832 : BitVec 32 := 0#32
  let v926 : BitVec 1 := Scalar.cmpi .slt v924 c0_i32_832
  let c0_i32_833 : BitVec 32 := 0#32
  let v927 : BitVec 1 := Scalar.cmpi .slt v923 c0_i32_833
  let v928 : BitVec 1 := Scalar.xori v926 v927
  let c0_i32_831 : BitVec 32 := 0#32
  let v925 : BitVec 1 := Scalar.cmpi .ne v924 c0_i32_831
  let v929 : BitVec 1 := Scalar.andi v928 v925
  let v930 : BitVec 32 := Scalar.addi v924 v923
  let v931 : BitVec 32 := Scalar.select v929 v930 v924
  let c1_i32_835 : BitVec 32 := 1#32
  let v932 : BitVec 32 := Scalar.muli v931 c1_i32_835
  let v933 : BitVec 32 := Scalar.addi c0_i32_836 v932
  v933.toNat
abbrev stage0_0 : Fin 1 → Memref sig .tc .vmem S4x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4x512x4096 : Shape := ⟨3, ![4, 512, 4096]⟩
abbrev S4x128 : Shape := ⟨2, ![4, 128]⟩
abbrev S128x4096 : Shape := ⟨2, ![128, 4096]⟩
abbrev S_ : Shape := ⟨0, ![]⟩
abbrev S4x512 : Shape := ⟨2, ![4, 512]⟩
abbrev S4x512x1 : Shape := ⟨3, ![4, 512, 1]⟩
abbrev S4x4096 : Shape := ⟨2, ![4, 4096]⟩
abbrev S4x1x4096 : Shape := ⟨3, ![4, 1, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4x512x4096, .f32⟩
  | .hbm, ⟨1, _⟩ => ⟨S4x128, .f32⟩
  | .hbm, ⟨2, _⟩ => ⟨S128x4096, .f32⟩
  | .hbm, ⟨3, _⟩ => ⟨S128x4096, .f32⟩
  | .hbm, ⟨4, _⟩ => ⟨S_, .f32⟩
  | .hbm, ⟨5, _⟩ => ⟨S4x512, .f32⟩
  | .hbm, ⟨6, _⟩ => ⟨S4x512x1, .f32⟩
  | .hbm, ⟨7, _⟩ => ⟨S_, .f32⟩
  | .hbm, ⟨8, _⟩ => ⟨S4x512x1, .f32⟩
  | .hbm, ⟨9, _⟩ => ⟨S4x512x1, .f32⟩
  | .hbm, ⟨10, _⟩ => ⟨S_, .i32⟩
  | .hbm, ⟨11, _⟩ => ⟨S_, .f32⟩
  | .hbm, ⟨12, _⟩ => ⟨S4x512, .f32⟩
  | .hbm, ⟨13, _⟩ => ⟨S4x512x1, .f32⟩
  | .hbm, ⟨14, _⟩ => ⟨S_, .f32⟩
  | .hbm, ⟨15, _⟩ => ⟨S4x512x1, .f32⟩
  | .hbm, ⟨16, _⟩ => ⟨S4x512x1, .f32⟩
  | .hbm, ⟨17, _⟩ => ⟨S4x512x4096, .f32⟩
  | .hbm, ⟨18, _⟩ => ⟨S4x512x4096, .f32⟩
  | .hbm, ⟨19, _⟩ => ⟨S4x512x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x512, .f32⟩
  | .hbm, ⟨25, _⟩ => ⟨S4x512x1, .f32⟩
  | .hbm, ⟨26, _⟩ => ⟨S4x512x1, .f32⟩
  | .hbm, ⟨27, _⟩ => ⟨S4x512x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S4x512x1, .f32⟩
  | .hbm, ⟨33, _⟩ => ⟨S4x512x1, .f32⟩
  | .hbm, ⟨34, _⟩ => ⟨S4x512x4096, .f32⟩
  | .hbm, ⟨35, _⟩ => ⟨S4x512x4096, .f32⟩
  | .hbm, ⟨36, _⟩ => ⟨S_, .f32⟩
  | .hbm, ⟨37, _⟩ => ⟨S4x512x1, .f32⟩
  | .hbm, ⟨38, _⟩ => ⟨S4x512x1, .f32⟩
  | .hbm, ⟨39, _⟩ => ⟨S4x512x1, .f32⟩
  | .hbm, ⟨40, _⟩ => ⟨S4x512x4096, .f32⟩
  | .hbm, ⟨41, _⟩ => ⟨S4x512x4096, .f32⟩
  | .hbm, ⟨42, _⟩ => ⟨S4x4096, .f32⟩
  | .hbm, ⟨43, _⟩ => ⟨S4x4096, .f32⟩
  | .hbm, ⟨44, _⟩ => ⟨S4x1x4096, .f32⟩
  | .hbm, ⟨45, _⟩ => ⟨S_, .f32⟩
  | .hbm, ⟨46, _⟩ => ⟨S4x1x4096, .f32⟩
  | .hbm, ⟨47, _⟩ => ⟨S4x1x4096, .f32⟩
  | .hbm, ⟨48, _⟩ => ⟨S4x512x4096, .f32⟩
  | .hbm, ⟨49, _⟩ => ⟨S4x512x4096, .f32⟩
  | .hbm, ⟨50, _⟩ => ⟨S4x1x4096, .f32⟩
  | .hbm, ⟨51, _⟩ => ⟨S4x512x4096, .f32⟩
  | .hbm, ⟨52, _⟩ => ⟨S4x512x4096, .f32⟩
  | _, _ => ⟨S4x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== Proof.KernelIdeal.Cells.lean ====
/-
The exchange of row sums between the sixteen devices: names for its semaphores, the buffer pieces they guard, and the
schedule of payments.

Every device holds a gather buffer of sixteen slots. Device `c` fills slot `c` of its own buffer with the sums over its
columns and then copies that slot into slot `c` of each of the fifteen other devices' buffers. A barrier before the
copies tells a device that its fifteen targets are running, and a second counter at the end keeps any device
from leaving while another is still at work.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.SparseCore.ProtocolKit
public import Idealize.ShloMosaic.Lib.Transfers
public import Idealize.ShloMosaic.Lib.Ring
public import Idealize.ShloMosaic.Lib.Tactic

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

/-! ## Ghost state: the pipeline's rounds and the exchange's -/

/-- The exchange's rounds; a payment into a cell is named by the distance of the device that makes it. -/
abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The devices in a circle -/

/-- The device `j + 1` places after `c`. -/
def fwd (j : Fin 15) (c : Dev nD) : Dev nD := ⟨(c.val + j.val + 1) % 16, Nat.mod_lt _ (by decide)⟩
/-- The device `j + 1` places before `c`. -/
def bwd (j : Fin 15) (c : Dev nD) : Dev nD := ⟨(c.val + 15 - j.val) % 16, Nat.mod_lt _ (by decide)⟩

theorem bwd_fwd (j : Fin 15) (c : Dev nD) : bwd j (fwd j c) = c := by
  revert j c; decide +kernel
theorem fwd_bwd (j : Fin 15) (c : Dev nD) : fwd j (bwd j c) = c := by
  revert j c; decide +kernel

/-- Moving `j + 1` places round the circle. -/
def turn (j : Fin 15) : Dev nD ≃ Dev nD := ⟨fwd j, bwd j, bwd_fwd j, fwd_bwd j⟩

/-- Every device other than `c` lies some distance after `c`. -/
theorem exists_fwd : ∀ c p : Dev nD, p ≠ c → ∃ j, fwd j c = p := by decide +kernel
theorem fwd_ne : ∀ (j : Fin 15) (c : Dev nD), fwd j c ≠ c := by decide +kernel
theorem bwd_ne : ∀ (j : Fin 15) (c : Dev nD), bwd j c ≠ c := by decide +kernel
theorem fwd_inj : ∀ (c : Dev nD) (j j' : Fin 15), fwd j c = fwd j' c → j = j' := by decide +kernel
theorem bwd_inj : ∀ (c : Dev nD) (j j' : Fin 15), bwd j c = bwd j' c → j = j' := by decide +kernel
theorem exists_bwd : ∀ c p : Dev nD, p ≠ c → ∃ j, bwd j c = p := by decide +kernel

/-! ## The cells -/

/-- The entry barrier, the exit counter, and per distance the send and the receive semaphore. -/
abbrev barS : Sem sig := (SemArray.scalar (sig.barrier 0 rfl) : Sems sig S_).sem
abbrev exitS : Sem sig := (cc0_scratch3 : Sems sig S_).sem
theorem inb15 (j : Fin 15) : ∀ a, (![j.val] : Fin 1 → Nat) a + S1.size a ≤ S15.size a := by revert j; decide
abbrev sndS (j : Fin 15) : DmaSem sig := ((cc0_scratch1.slice (Rect.unit (s := S15) ![j.val] S1.size (inb15 j))).squeeze S_ squeezes_S1_S_).sem
abbrev rcvS (j : Fin 15) : DmaSem sig := ((cc0_scratch2.slice (Rect.unit (s := S15) ![j.val] S1.size (inb15 j))).squeeze S_ squeezes_S1_S_).sem

/-- The semaphores scoped to the kernel: the exit counter, the sends, the receives. -/
abbrev KO : Type := Unit ⊕ (Fin 15 ⊕ Fin 15)
/-- All of a device's exchange cells: the barrier, then the scoped ones. -/
abbrev KI : Type := Unit ⊕ KO
abbrev kBar : KI := .inl ()
abbrev kExit : KI := .inr (.inl ())
abbrev kSnd (j : Fin 15) : KI := .inr (.inr (.inl j))
abbrev kRcv (j : Fin 15) : KI := .inr (.inr (.inr j))

def osem : KO → SemLoc sig
  | .inl _ => .reg exitS
  | .inr (.inl j) => .dma (sndS j)
  | .inr (.inr j) => .dma (rcvS j)
def csem : KI → SemLoc sig
  | .inl _ => .reg barS
  | .inr k => osem k

theorem csem_inj : Function.Injective csem := by
  have h : ∀ k k' : KI, csem k = csem k' → k = k' := by decide +kernel
  exact fun k k' => h k k'

/-- The cell of kind `k` on device `c`. -/
abbrev kcell (c : Dev nD) (k : KI) : GSem nD τ sig := ((c : Thread nD τ), csem k)

theorem kcell_inj {c c' : Dev nD} {k k' : KI} (h : kcell c k = kcell c' k') : c = c' ∧ k = k' :=
  ⟨congrArg (fun g : GSem nD τ sig => g.1.1) h, csem_inj (congrArg Prod.snd h)⟩

open Classical in
/-- Which kind of cell a semaphore is, if it is one of the exchange's. -/
def kindOf (sm : SemLoc sig) : Option KI := if h : ∃ k, csem k = sm then some h.choose else none

theorem kindOf_csem (k : KI) : kindOf (csem k) = some k := by
  have h : ∃ k', csem k' = csem k := ⟨k, rfl⟩
  unfold kindOf; rw [dif_pos h]; exact congrArg some (csem_inj h.choose_spec)

theorem kindOf_none {sm : SemLoc sig} (h : ∀ k, csem k ≠ sm) : kindOf sm = none := by
  unfold kindOf; rw [dif_neg]; rintro ⟨k, hk⟩; exact h k hk

/-! ## The gather buffer and its slots -/

abbrev gM : Memref sig .tc .vmem S16x2x4x512 .f32 := Memref.whole cc0_scratch0
/-- Slot `p` of the gather buffer as the copies address it. -/
abbrev slotM (p : Dev nD) : Memref sig .tc .vmem S2x4x512 .f32 :=
  (gM.slice (Rect.unit (s := S16x2x4x512) (k0_off2 p) S1x2x4x512.size (k0_off2_inb p)) (fun _ => rfl)).squeeze S2x4x512 squeezes_S1x2x4x512_S2x4x512

/-- The elements of slot `p`. -/
abbrev slotSet (p : Dev nD) : Finset S16x2x4x512.Idx := (slotM p).view.set

/-- The credit of one copy. -/
def N : ℕ := (slotM 0).view.dmaCredit
theorem credit_slot (p : Dev nD) : (slotM p).view.dmaCredit = N := rfl
theorem N_pos : 0 < N := View.dmaCredit_pos _ (by decide)

/-- An element lies in slot `p` exactly when its leading coordinate is `p`. -/
theorem mem_slotSet (p : Dev nD) (i : S16x2x4x512.Idx) : i ∈ slotSet p ↔ (i 0).val = p.val := by
  have hset : slotSet p = (Rect.unit (s := S16x2x4x512) (k0_off2 p) S1x2x4x512.size (k0_off2_inb p)).set :=
    (View.set_reshape _ _).trans (View.set_slice_whole _ _)
  rw [hset, Rect.mem_set_unit]
  simp only [k0_off2_eq]
  constructor
  · intro h; have := h 0; simp at this; omega
  · intro h a
    fin_cases a
    · simp; omega
    · exact ⟨Nat.zero_le _, by simpa using (i 1).isLt⟩
    · exact ⟨Nat.zero_le _, by simpa using (i 2).isLt⟩
    · exact ⟨Nat.zero_le _, by simpa using (i 3).isLt⟩

theorem slot_disjoint (p p' : Dev nD) (h : p ≠ p') : Disjoint (slotSet p) (slotSet p') :=
  Finset.disjoint_left.mpr fun i hi hi' => h (Fin.ext (((mem_slotSet p i).mp hi).symm.trans ((mem_slotSet p' i).mp hi')))

theorem slot_cover : Finset.univ.biUnion slotSet = Finset.univ := by
  ext i
  simp only [Finset.mem_biUnion, Finset.mem_univ, true_and, iff_true]
  exact ⟨⟨(i 0).val, (i 0).isLt⟩, (mem_slotSet _ i).mpr rfl⟩

/-! ## Contents -/

/-- Device `c`'s blocks of the four arguments. -/
def xstg (c : Dev nD) : (cc0_stg0_0 : Ref sig .tc).ty.Contents (Elt F) :=
  (win0_0.blk (0 : Fin 1)).view.read (Elt F) ((s₀ m ρ).mem ((c : Thread nD τ).loc main_arg0))
def tstg (c : Dev nD) : (cc0_stg1_0 : Ref sig .tc).ty.Contents (Elt F) :=
  (win0_1.blk (0 : Fin 1)).view.read (Elt F) ((s₀ m ρ).mem ((c : Thread nD τ).loc main_arg1))
def sstg (c : Dev nD) : (cc0_stg2_0 : Ref sig .tc).ty.Contents (Elt F) :=
  (win0_2.blk (0 : Fin 1)).view.read (Elt F) ((s₀ m ρ).mem ((c : Thread nD τ).loc main_arg2))
def hstg (c : Dev nD) : (cc0_stg3_0 : Ref sig .tc).ty.Contents (Elt F) :=
  (win0_3.blk (0 : Fin 1)).view.read (Elt F) ((s₀ m ρ).mem ((c : Thread nD τ).loc main_arg3))

/-- An index of the buffer, its leading coordinate dropped to the one of a single slot. -/
def inSlot (i : S16x2x4x512.Idx) : S1x2x4x512.Idx := fun a => match a with
  | ⟨0, _⟩ => ⟨0, Nat.one_pos⟩
  | ⟨1, _⟩ => ⟨(i 1).val, (i 1).isLt⟩
  | ⟨2, _⟩ => ⟨(i 2).val, (i 2).isLt⟩
  | ⟨3, _⟩ => ⟨(i 3).val, (i 3).isLt⟩

/-- The gather buffer when every slot has arrived: slot `p` holds device `p`'s partial sums. -/
def gath : S16x2x4x512.Idx → Elt F .f32 :=
  fun i => k0_pay2 (xstg m ρ (⟨(i 0).val, (i 0).isLt⟩ : Dev nD)) (inSlot i)

/-- Device `c`'s result block. -/
def outAt (c : Dev nD) : (cc0_stg4_0 : Ref sig .tc).ty.Contents (Elt F) :=
  k0_pay4 (k0_pay1 (xstg m ρ c)) (k0_pay3 (gath m ρ)) (tstg m ρ c) (sstg m ρ c) (tstg m ρ c) (hstg m ρ c)

/-! ## Pieces of the buffer as assertions -/

/-- Share `q` of slot `p` of device `c`'s gather buffer, holding `f` there. -/
def slotPts (c p : Dev nD) (q : PosShare TreeShare) (f : Buf (Elt F) ((c : Thread nD τ).loc cc0_scratch0)) : sProp 𝕄 :=
  ((c : Thread nD τ).loc cc0_scratch0) ↦[slotSet p]{q} f

omit [FloatOps F] in
instance slotPts_storable (c p : Dev nD) (q) (f) : BI.Storable (upEmb : UEmb _ 𝕄) (slotPts (F := F) c p q f) := by unfold slotPts; infer_instance

/-- The whole buffer is its sixteen slots. -/
theorem slots_eq (c : Dev nD) (f : Buf (Elt F) ((c : Thread nD τ).loc cc0_scratch0)) :
    (((c : Thread nD τ).loc cc0_scratch0) ↦{fullShare} f : sProp 𝕄) = bigSep Finset.univ fun p : Dev nD => slotPts c p fullShare f := by
  unfold slotPts
  refine Ring.pointsTo_blocks (ℓ := (c : Thread nD τ).loc cc0_scratch0) (B := Dev nD) slotSet slot_disjoint ?_ f
  exact slot_cover

/-! ## The schedule -/

/-- What each cell's payment hands over. The barrier payment of distance `d` comes from the device `d + 1` places before `c` and
    carries the slot of that device's buffer that `c` will fill; a send gives back the share of `c`'s own slot the copy was
    reading; a receive gives the slot that arrived. -/
def pay (c : Dev nD) : KI → Fin 15 → sProp 𝕄
  | .inl _, d => iprop(∃ f, slotPts (bwd d c) c fullShare f)
  | .inr (.inl _), _ => iprop(emp)
  | .inr (.inr (.inl j)), _ => slotPts c c (Transfers.shareTok fullShare 15 j) (gath m ρ)
  | .inr (.inr (.inr j)), _ => slotPts c (bwd j c) fullShare (gath m ρ)

/-- Who pays each cell: all fifteen distances for the two counters, one copy for each transfer cell. -/
def dutiesK : KI → Finset (Fin 15)
  | .inl _ => Finset.univ
  | .inr (.inl _) => Finset.univ
  | .inr (.inr _) => {0}

/-- How much one payment adds. -/
def amtK : KI → ℕ
  | .inl _ => 1
  | .inr (.inl _) => 1
  | .inr (.inr _) => N

theorem amtK_pos (k : KI) : 0 < amtK k := by
  rcases k with _ | _ | _ <;> first | exact Nat.one_pos | exact N_pos

/-- The level of each kind of cell: a device waits only while what it still owes lies higher. -/
def lvK : KI → ℕ
  | .inl _ => 1
  | .inr (.inl _) => 3
  | .inr (.inr (.inl _)) => 0
  | .inr (.inr (.inr _)) => 2

/-- One round per cell. -/
def rd : Rounds.Schedule (GSem nD τ sig) (Fin 15) 𝕄 where
  duties g r := if r = 0 ∧ g.1.2 = .tc then (kindOf g.2).elim ∅ dutiesK else ∅
  unitless _ := False
  amount g _ _ := (kindOf g.2).elim 1 amtK
  payload g _ d := (kindOf g.2).elim iprop(emp) (fun k => pay m ρ g.1.1 k d)
  amount_pos g _ _ _ := by
    cases h : kindOf g.2 with
    | none => exact Nat.one_pos
    | some k => exact amtK_pos k

instance pay_storable (c : Dev nD) (k : KI) (d : Fin 15) : BI.Storable (upEmb : UEmb _ 𝕄) (pay (F := F) m ρ c k d) := by
  rcases k with _ | _ | _ | _ <;> (dsimp only [pay]; infer_instance)

instance rd_payload_storable (g : GSem nD τ sig) (r : ℕ) (d : Fin 15) :
    BI.Storable (upEmb : UEmb _ 𝕄) ((rd (F := F) m ρ).payload g r d) := by
  dsimp only [rd]
  cases kindOf g.2 with
  | none => dsimp only [Option.elim]; infer_instance
  | some k => dsimp only [Option.elim]; infer_instance

section Sched
variable (c : Dev nD) (k : KI)

theorem rd_duties : (rd (F := F) m ρ).duties (kcell c k) 0 = dutiesK k := by
  dsimp only [rd]; rw [if_pos ⟨rfl, rfl⟩, kindOf_csem]; rfl
theorem rd_later (g : GSem nD τ sig) : ∀ r, 1 ≤ r → (rd (F := F) m ρ).duties g r = ∅ :=
  fun r hr => by dsimp only [rd]; rw [if_neg fun h => by omega]
theorem rd_amount (d : Fin 15) : (rd (F := F) m ρ).amount (kcell c k) 0 d = amtK k := by
  dsimp only [rd]; rw [kindOf_csem]; rfl
theorem rd_payload (d : Fin 15) : (rd (F := F) m ρ).payload (kcell c k) 0 d = pay m ρ c k d := by
  dsimp only [rd]; rw [kindOf_csem]; rfl

theorem rd_expect : (rd (F := F) m ρ).expect (kcell c k) 0 = (dutiesK k).card * amtK k := by
  unfold Schedule.expect Schedule.amountOf
  rw [rd_duties, Finset.sum_congr rfl fun d _ => rd_amount m ρ c k d, Finset.sum_const, smul_eq_mul]

theorem rd_rest : bigSep ((rd (F := F) m ρ).duties (kcell c k) 0 \ ∅) (fun d => (rd (F := F) m ρ).payload (kcell c k) 0 d)
    = bigSep (dutiesK k) (fun d => pay m ρ c k d) := by
  rw [Finset.sdiff_empty, rd_duties]; exact bigSep_congr fun d _ => rd_payload m ρ c k d

end Sched

end Cert.KernelIdeal.Exchange

end
-- ==== Proof.KernelIdeal.Steps.lean ====
/-
One rule per kind of effect of the exchange: a signal, a copy, a wait. Each moves a family indexed by the distance one
place further, so the fifteen signals (copies, waits) of the kernel are fifteen uses of one rule.
-/
module

public import proofs.«01_k».proof.Proof.KernelIdeal.Cells

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)

/-! ## What a device owes -/

/-- The receive credits still to be paid from distance `k` on. -/
def owedRcv (c : Dev nD) (k : ℕ) : CellTallies nD τ sig Unit :=
  ∑ d ∈ finFrom 15 k, tallyAt (kcell (fwd d c) (kRcv d)) () N
/-- The units of the counter `q` still to be paid from distance `k` on. -/
def owedCnt (c : Dev nD) (q : KI) (k : ℕ) : CellTallies nD τ sig Unit :=
  ∑ d ∈ finFrom 15 k, tallyAt (kcell (fwd d c) q) () 1
/-- What device `c` owes at launch: exit units, receive credits and barrier units. -/
def O₀ (c : Dev nD) : CellTallies nD τ sig Unit := owedCnt c kExit 0 + owedRcv c 0 + owedCnt c kBar 0

theorem owedCnt_end (c : Dev nD) (q : KI) : owedCnt c q 15 = 0 := sum_finFrom_self _
theorem owedRcv_end (c : Dev nD) : owedRcv c 15 = 0 := sum_finFrom_self _

theorem owedRcv_pos {c : Dev nD} {k : ℕ} {g : GSem nD τ sig} {u : Unit} (h : 0 < owedRcv c k g u) :
    ∃ d j, g = kcell d (kRcv j) := by
  obtain ⟨j, -, h, -⟩ := sum_tallyAt_apply_pos h; exact ⟨_, j, h⟩
theorem owedCnt_pos {c : Dev nD} {q : KI} {k : ℕ} {g : GSem nD τ sig} {u : Unit} (h : 0 < owedCnt c q k g u) :
    ∃ d, g = kcell d q := by
  obtain ⟨j, -, h, -⟩ := sum_tallyAt_apply_pos h; exact ⟨_, h⟩

/-! ## Levels -/

def L (g : GSem nD τ sig) : Finset Unit := if g.1.2 = .tc then {()} else ∅
/-- Staging and send cells lie lowest, then the barrier, the receives, the exit counter. -/
def lv (g : GSem nD τ sig) (_ : Unit) : ℕ := (kindOf g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : KI) (u : Unit) : lv (kcell c k) u = lvK k := by unfold lv; rw [kindOf_csem]; rfl

/-- A device may wait on a semaphore whose level is below those of all cells it owes. -/
theorem mayWait_of (c : Dev nD) (sm : SemLoc sig) (b : ℕ) (hb : (kindOf sm).elim 0 lvK ≤ b) {O : CellTallies nD τ sig Unit}
    (h : ∀ g u, 0 < O g u → ∃ d k, g = kcell d k ∧ b < lvK k) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by obtain ⟨d, k, rfl, -⟩ := h g u hg; rw [L_tc]; exact Finset.mem_singleton_self _)
    (fun p hp => by rw [Finset.mem_singleton.mp hp]; exact hb)
    (fun g u hg => by obtain ⟨d, k, rfl, hk⟩ := h g u hg; rw [lv_kcell]; exact hk)

theorem add_pos' {O O' : CellTallies nD τ sig Unit} {g : GSem nD τ sig} {u : Unit} (h : 0 < (O + O') g u) : 0 < O g u ∨ 0 < O' g u := by
  rw [Pi.add_apply, Finsupp.add_apply] at h; omega

theorem owed_exit_rcv {c : Dev nD} {g : GSem nD τ sig} {u : Unit} (h : 0 < (owedCnt c kExit 0 + owedRcv c 0) g u) :
    ∃ d k, g = kcell d k ∧ 1 < lvK k := by
  rcases add_pos' h with h | h
  · obtain ⟨d, rfl⟩ := owedCnt_pos h; exact ⟨d, _, rfl, by decide⟩
  · obtain ⟨d, j, rfl⟩ := owedRcv_pos h; exact ⟨d, _, rfl, by show 1 < 2; decide⟩

theorem owed_exit {c : Dev nD} {g : GSem nD τ sig} {u : Unit} (h : 0 < (0 + owedCnt c kExit 0) g u) :
    ∃ d k, g = kcell d k ∧ 2 < lvK k := by
  rw [zero_add] at h; obtain ⟨d, rfl⟩ := owedCnt_pos h; exact ⟨d, _, rfl, by decide⟩

theorem O₀_pos {c : Dev nD} {g : GSem nD τ sig} {u : Unit} (h : 0 < O₀ c g u) : ∃ d k, g = kcell d k ∧ 0 < lvK k := by
  rcases add_pos' h with h | h
  · obtain ⟨d, k, e, hk⟩ := owed_exit_rcv h; exact ⟨d, k, e, by omega⟩
  · obtain ⟨d, rfl⟩ := owedCnt_pos h; exact ⟨d, _, rfl, by decide⟩

/-! ## Records -/

variable (K : Dev nD × KI → ℕ)

/-- Every cell's invariant, under the names `K`, and that its round 0 is open: knowledge all devices share. -/
def recs : sProp 𝕄 :=
  iprop((bigSep Finset.univ fun ck : Dev nD × KI => cellInv ER (rd m ρ) (K ck) (kcell ck.1 ck.2))
    ∗ bigSep Finset.univ fun ck : Dev nD × KI => reached ER (kcell ck.1 ck.2) 0)

instance recs_persistent : BI.Persistent (recs m ρ K) := by unfold recs; infer_instance

theorem recs_inv (c : Dev nD) (k : KI) : recs m ρ K ⊢ cellInv ER (rd m ρ) (K (c, k)) (kcell c k) := by
  unfold recs
  exact sep_elim_left.trans (bigSep_elim (Φ := fun ck : Dev nD × KI => cellInv ER (rd m ρ) (K ck) (kcell ck.1 ck.2)) (Finset.mem_univ (c, k)))

theorem recs_reached (c : Dev nD) (k : KI) : recs m ρ K ⊢ reached ER (kcell c k) 0 := by
  unfold recs
  exact sep_elim_right.trans (bigSep_elim (Φ := fun ck : Dev nD × KI => (reached ER (kcell ck.1 ck.2) 0 : sProp 𝕄)) (Finset.mem_univ (c, k)))

/-! ## A signal -/

abbrev 𝒱₀ : Variants := Variants.none

/-- `c` owes `O'`, with some waits recorded. -/
def owing (c : Dev nD) (O' : CellTallies nD τ sig Unit) : sProp 𝕄 := iprop(∃ W, owes (c : Thread nD τ) O' W)

/-- What is ahead of signal `k` of counter `q`: the units owed, the duty tokens and what the payments carry. -/
def sigSt (c : Dev nD) (q : KI) (O : CellTallies nD τ sig Unit) (k : ℕ) : sProp 𝕄 :=
  iprop(owing c (O + owedCnt c q k)
    ∗ bigSep (finFrom 15 k) fun d => iprop(dutyTok ER (kcell (fwd d c) q) 0 d ∗ pay m ρ (fwd d c) q d))

theorem sig_step (c n : Dev nD) (q : KI) {s : Sem sig} (hs : csem q = .reg s) (hd : dutiesK q = Finset.univ) (ha : amtK q = 1)
    (O : CellTallies nD τ sig Unit) (j : Fin 15) (hn : n = fwd j c) {k' : ℕ} (hk : k' = 1)
    {α : Type} {Q : α → sProp 𝕄} {k : PUnit → Prog (TpuEff nD τ sig (Elt F) Λ₀ .tc) α} :
    iprop(recs m ρ K ∗ sigSt m ρ c q O j.val)
      ⊢ iprop((sigSt m ρ c q O (j.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) s k') k) Q) := by
  subst hn
  have e : kcell (fwd j c) q = ((fwd j c : Thread nD τ), .reg s) := congrArg (Prod.mk _) hs
  unfold sigSt owing owedCnt
  rw [bigSep_finFrom_succ j.isLt, add_sum_finFrom_succ O j.isLt]
  iintro ⟨#HR, ⟨%W, HO⟩, ⟨Ht, Hp⟩, Hrest⟩ Hk
  ihave #Hi := (recs_inv m ρ K (fwd j c) q) $$ HR
  ihave #Hr := (recs_reached m ρ K (fwd j c) q) $$ HR
  iapply (Rounds.wp_signal 𝒱₀ ER (rd m ρ) (c : Thread nD τ) none (dst := (fwd j c : Thread nD τ)) (sem := s) (r := 0) (κ := K (fwd j c, q)) (d := j)
      (by rw [← e, rd_duties, hd]; exact Finset.mem_univ _) (by rw [← e, rd_amount, ha, hk]) ()
      (O + ∑ d ∈ finFrom 15 (j.val + 1), tallyAt (kcell (fwd d c) q) () 1) (by rw [hk, ← e]) (W := W)) $$ [HO Ht Hp]
  · rw [← e, rd_payload]
    isplitr; · iexact Hi
    isplitl [HO]; · iexact HO
    isplitl [Ht]; · iexact Ht
    isplitl [Hp]; · iexact Hp
    iexact Hr
  iintro HO
  iapply Hk
  isplitl [HO]; · iexists W; iexact HO
  iexact Hrest

/-! ## A copy -/

/-- An element of a slot has a place in the slot's view. -/
theorem exists_of_mem_slotSet {p : Dev nD} {i : S16x2x4x512.Idx} (h : i ∈ slotSet p) : ∃ x, (slotM p).view.emb x = i := by
  obtain ⟨x, -, hx⟩ := Finset.mem_map.mp h; exact ⟨x, hx⟩

/-- What a copy of slot `p` delivers is the sent slot's contents. -/
theorem slot_arrive (c' p : Dev nD) (q : PosShare TreeShare) (fd : Buf (Elt F) ((c' : Thread nD τ).loc cc0_scratch0)) (g : S16x2x4x512.Idx → Elt F .f32) :
    (((slotM p).view.loc (c' : Thread nD τ)) ↦[(slotM p).view.set]{q} (slotM p).view.write (Elt F) fd ((slotM p).view.read (Elt F) g) Finset.univ : sProp 𝕄)
      = slotPts c' p q g := by
  unfold slotPts
  refine pointsTo_congr fun i hi => ?_
  obtain ⟨x, rfl⟩ := exists_of_mem_slotSet hi
  exact View.write_emb_of_mem _ _ (Finset.mem_univ x)

/-- What is ahead of copy `k`: receive credits owed, the duty tokens of both its cells, a share of the source slot and the
    slot it fills; and what is behind: a send credit for each copy issued. -/
def sendSt (c : Dev nD) (O : CellTallies nD τ sig Unit) (k : ℕ) : sProp 𝕄 :=
  iprop(owing c (O + owedRcv c k)
    ∗ (bigSep (finFrom 15 k) fun d => iprop(dutyTok ER (kcell c (kSnd d)) 0 0 ∗ dutyTok ER (kcell (fwd d c) (kRcv d)) 0 0
        ∗ slotPts c c (Transfers.shareTok fullShare 15 d) (gath m ρ) ∗ ∃ f, slotPts (fwd d c) c fullShare f))
    ∗ bigSep (finUpTo 15 k) fun d => (cred (tallyAt (kcell c (kSnd d)) () N)))

theorem send_step (c n : Dev nD) (O : CellTallies nD τ sig Unit) (j : Fin 15) (hn : n = fwd j c)
    {hsc : (slotM c : Memref sig (Dev.tc n : Thread nD τ).2.kind .vmem S2x4x512 .f32).view.ref.isScScratch = false}
    {hsrc : (slotM c).view.WordExact} {hdst : (slotM c).view.WordExact}
    {hsem : DmaTarget.Typed .vmem (.dma (rcvS j)) (.remote (Dev.tc n : Thread nD τ) (slotM c) (.dma (sndS j)) hsc)}
    {α : Type} {Q : α → sProp 𝕄} {k : PUnit → Prog (TpuEff nD τ sig (Elt F) Λ₀ .tc) α} :
    iprop(recs m ρ K ∗ sendSt m ρ c O j.val)
      ⊢ iprop((sendSt m ρ c O (j.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM c) (.remote (Dev.tc n : Thread nD τ) (slotM c) (.dma (sndS j)) hsc) (.dma (rcvS j)) hsrc hdst hsem) k) Q) := by
  subst hn
  unfold sendSt owing owedRcv
  rw [bigSep_finFrom_succ j.isLt, add_sum_finFrom_succ O j.isLt, bigSep_finUpTo_succ j.isLt]
  iintro ⟨#HR, ⟨%W, HO⟩, ⟨⟨Hts, Htr, Hsrc, ⟨%f, Hdst⟩⟩, Hrest⟩, Hcr⟩ Hk
  ihave #His := (recs_inv m ρ K c (kSnd j)) $$ HR
  ihave #Hrs := (recs_reached m ρ K c (kSnd j)) $$ HR
  ihave #Hir := (recs_inv m ρ K (fwd j c) (kRcv j)) $$ HR
  ihave #Hrr := (recs_reached m ρ K (fwd j c) (kRcv j)) $$ HR
  have hp₁ : ((slotM c).view.loc (c : Thread nD τ) ↦[(slotM c).view.set]{Transfers.shareTok fullShare 15 j} gath m ρ : sProp 𝕄)
      ⊢ (rd m ρ).payload ((c : Thread nD τ), .dma (sndS j)) 0 0 := Entails.of_eq (rd_payload m ρ c (kSnd j) 0).symm
  have hp₂ : ((slotM c).view.loc (fwd j c : Thread nD τ) ↦[(slotM c).view.set]{fullShare} (slotM c).view.write (Elt F) f ((slotM c).view.read (Elt F) (gath m ρ)) Finset.univ : sProp 𝕄)
      ⊢ (rd m ρ).payload ((fwd j c : Thread nD τ), .dma (rcvS j)) 0 0 := by
    refine Entails.of_eq ((slot_arrive (fwd j c) c fullShare f (gath m ρ)).trans (Eq.trans ?_ (rd_payload m ρ (fwd j c) (kRcv j) 0).symm))
    dsimp only [pay]; rw [bwd_fwd]
  iapply (Rounds.wp_send_pointsTo 𝒱₀ ER (rd m ρ) (c : Thread nD τ) none (κ₁ := K (c, kSnd j)) (κ₂ := K (fwd j c, kRcv j))
      (src := slotM c) (dst := slotM c)
      (sS := .dma (sndS j)) (sem := .dma (rcvS j)) (c' := (fwd j c : Thread nD τ))
      (q := Transfers.shareTok fullShare 15 j) (fs := gath m ρ) (fd := f) (r₁ := 0) (r₂ := 0) (d₁ := 0) (d₂ := 0)
      (show (0 : Fin 15) ∈ (rd m ρ).duties (kcell c (kSnd j)) 0 by rw [rd_duties]; exact Finset.mem_singleton_self _)
      (show (0 : Fin 15) ∈ (rd m ρ).duties (kcell (fwd j c) (kRcv j)) 0 by rw [rd_duties]; exact Finset.mem_singleton_self _)
      () () N (credit_slot c) (rd_amount m ρ c (kSnd j) 0) (rd_amount m ρ (fwd j c) (kRcv j) 0)
      (O + ∑ d ∈ finFrom 15 (j.val + 1), tallyAt (kcell (fwd d c) (kRcv d)) () N) rfl (W := W) hp₁ hp₂) $$ [HO Hts Htr Hsrc Hdst]
  · isplitr; · iexact His
    isplitr; · iexact Hir
    isplitl [Hsrc]; · unfold slotPts; iexact Hsrc
    isplitl [Hdst]; · unfold slotPts; iexact Hdst
    isplitl [HO]; · iexact HO
    isplitl [Hts]; · iexact Hts
    isplitr; · iexact Hrs
    isplitl [Htr]; · iexact Htr
    iexact Hrr
  iintro ⟨Hc, HO⟩
  iapply Hk
  isplitl [HO]; · iexists W; iexact HO
  isplitl [Hrest]; · iexact Hrest
  isplitl [Hc]; · iexact Hc
  iexact Hcr

/-! ## A wait -/

/-- A wait for all of a cell's payments; the cell is closed with it and its counter, at zero, is the device's again. -/
theorem wait_close (c : Dev nD) (q : KI) {sm : SemLoc sig} (hs : csem q = sm) {O : CellTallies nD τ sig Unit}
    {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ sm k' Kt)
    (hk : k' = (dutiesK q).card * amtK q)
    {α : Type} {Q : α → sProp 𝕄} {k : PUnit → Prog (TpuEff nD τ sig (Elt F) Λ₀ .tc) α} :
    iprop(recs m ρ K ∗ MayWait (c : Thread nD τ) sm () O ∗ owing c O ∗ cred (tallyAt (kcell c q) () ((dutiesK q).card * amtK q))
        ∗ atPos ER (kcell c q) 0 ∅ 0)
      ⊢ iprop(((owing c O ∗ semVal (kcell c q) 0 ∗ bigSep (dutiesK q) (fun d => pay m ρ c q d))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hs
  rw [← hk]
  unfold owing
  iintro ⟨#HR, Hmw, ⟨%W, HO⟩, Hc, Hat⟩ Hk
  ihave #Hi := (recs_inv m ρ K c q) $$ HR
  iapply (Rounds.wp_wait_rest_token 𝒱₀ ER (rd m ρ) (c : Thread nD τ) none (κ := K (c, q)) hw (Set.mem_univ _) () (O := O) (W := W)
      (R := 0) (m := 0) (T := ∅) (by rw [Nat.zero_add, rd_expect, hk])) $$ [Hmw HO Hc Hat]
  · isplitr; · iexact Hi
    isplitl [Hc]; · iexact Hc
    isplitl [HO]; · iexact HO
    isplitl [Hmw]; · iexact Hmw
    iexact Hat
  iintro ⟨HO, Hat, -, Hpay⟩
  ihave Hp := (Entails.of_eq (rd_rest m ρ c q)) $$ Hpay
  imod (Rounds.cell_close ER (rd m ρ) (Set.mem_univ (K (c, q))) (fun h => h) (R := 0 + 1) (rd_later m ρ (kcell c q))) $$ [Hat] with Hz
  · isplitr; · iexact Hi
    iexact Hat
  iapply Hk
  isplitl [HO]; · iexists _; iexact HO
  isplitl [Hz]; · iexact Hz
  iexact Hp

/-- What is ahead of wait `k` on the cells `q`: credits and positions; and what is behind: the counters at zero and the payments. -/
def waitSt (c : Dev nD) (q : Fin 15 → KI) (k : ℕ) : sProp 𝕄 :=
  iprop((bigSep (finFrom 15 k) fun d => iprop(cred (tallyAt (kcell c (q d)) () N) ∗ atPos ER (kcell c (q d)) 0 ∅ 0))
    ∗ bigSep (finUpTo 15 k) fun d => iprop(semVal (kcell c (q d)) 0 ∗ pay m ρ c (q d) 0))

theorem wait_step (c : Dev nD) (q : Fin 15 → KI) (j : Fin 15) {s : DmaSem sig} (hs : csem (q j) = .dma s)
    (hq : dutiesK (q j) = {0} ∧ amtK (q j) = N ∧ lvK (q j) ≤ 2)
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma s) N Kt)
    {α : Type} {Q : α → sProp 𝕄} {k : PUnit → Prog (TpuEff nD τ sig (Elt F) Λ₀ .tc) α} :
    iprop(recs m ρ K ∗ levAts L lv ∗ owing c (0 + owedCnt c kExit 0) ∗ waitSt m ρ c q j.val)
      ⊢ iprop(((owing c (0 + owedCnt c kExit 0) ∗ waitSt m ρ c q (j.val + 1))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have hN : (dutiesK (q j)).card * amtK (q j) = N := by rw [hq.1, hq.2.1, Finset.card_singleton, Nat.one_mul]
  unfold waitSt
  rw [bigSep_finFrom_succ j.isLt, bigSep_finUpTo_succ j.isLt]
  iintro ⟨#HR, #Hlev, HO, ⟨⟨Hc, Hat⟩, Hrest⟩, Hdone⟩ Hk
  iapply (wait_close m ρ K c (q j) hs (O := 0 + owedCnt c kExit 0) hw hN.symm) $$ [HO Hc Hat]
  · isplitr; · iexact HR
    isplitr
    · iapply (mayWait_of c (.dma s) 2 (by rw [← hs, kindOf_csem]; exact hq.2.2) (fun g u h => owed_exit h)); iexact Hlev
    isplitl [HO]; · iexact HO
    rw [hN]
    isplitl [Hc]; · iexact Hc
    iexact Hat
  iintro ⟨HO, Hz, Hp⟩
  ihave Hp' := (Entails.of_eq (by rw [hq.1, bigSep_singleton] : bigSep (dutiesK (q j)) (fun d => pay m ρ c (q j) d) = pay m ρ c (q j) 0)) $$ Hp
  iapply Hk
  isplitl [HO]; · iexact HO
  isplitl [Hrest]; · iexact Hrest
  isplitl [Hz Hp']
  · isplitl [Hz]; · iexact Hz
    iexact Hp'
  iexact Hdone

/-! ## The rules as the body's proof uses them, the rest of what the device holds beside -/

section Rules

variable {m ρ K}
variable {c : Dev nD} {O : CellTallies nD τ sig Unit} {R : sProp (MT nD τ sig Unit (Elt F) ℕ UU ℕ)}
variable {α : Type} {Q : α → sProp (MT nD τ sig Unit (Elt F) ℕ UU ℕ)}
variable {k : PUnit → Prog (TpuEff nD τ sig (Elt F) Λ₀ .tc) α}

/-- The next signal of the counter `q`, its target given by a printed expression `f` of the device. -/
theorem sig_rule (q : KI) {s : Sem sig} {j : ℕ} {f : Dev nD → ℕ} {lt : ∀ c, f c < nD} {k' : ℕ}
    (hs : csem q = .reg s) (hd : dutiesK q = Finset.univ ∧ amtK q = 1) (hk : k' = 1) (hj : j < 15)
    (hf : ∀ c, f c = (fwd ⟨j, hj⟩ c).val)
    (h : iprop(recs m ρ K ∗ sigSt m ρ c q O (j + 1) ∗ R) ⊢ wp frame (wpE (defs₀ (F := F)) 𝒱₀ (c : Thread nD τ) none) Set.univ (k ⟨⟩) Q) :
    iprop(recs m ρ K ∗ sigSt m ρ c q O j ∗ R)
      ⊢ wp frame (wpE (defs₀ (F := F)) 𝒱₀ (c : Thread nD τ) none) Set.univ (.op (.semSignal ((⟨f c, lt c⟩ : Dev nD) : Thread nD τ) s k') k) Q := by
  iintro ⟨#HR, HS, Hrest⟩
  iapply (sig_step m ρ K c ⟨f c, lt c⟩ q hs hd.1 hd.2 O ⟨j, hj⟩ (Fin.ext (hf c)) hk) $$ [HS]
  · isplitr; · iexact HR
    iexact HS
  iintro HS
  iapply h
  isplitr; · iexact HR
  isplitl [HS] <;> iassumption

/-- The next copy. -/
theorem send_rule {sS rS : SemLoc sig} {j : ℕ} {f : Dev nD → ℕ} {lt : ∀ c, f c < nD} (hj : j < 15)
    (hsS : csem (kSnd ⟨j, hj⟩) = sS) (hrS : csem (kRcv ⟨j, hj⟩) = rS) (hf : ∀ c, f c = (fwd ⟨j, hj⟩ c).val)
    {hsc : (slotM c : Memref sig (Dev.tc (⟨f c, lt c⟩ : Dev nD) : Thread nD τ).2.kind .vmem S2x4x512 .f32).view.ref.isScScratch = false}
    {hsrc : (slotM c).view.WordExact} {hdst : (slotM c).view.WordExact}
    {hsem : DmaTarget.Typed .vmem rS (.remote (Dev.tc (⟨f c, lt c⟩ : Dev nD) : Thread nD τ) (slotM c) sS hsc)}
    (h : iprop(recs m ρ K ∗ sendSt m ρ c O (j + 1) ∗ R) ⊢ wp frame (wpE (defs₀ (F := F)) 𝒱₀ (c : Thread nD τ) none) Set.univ (k ⟨⟩) Q) :
    iprop(recs m ρ K ∗ sendSt m ρ c O j ∗ R)
      ⊢ wp frame (wpE (defs₀ (F := F)) 𝒱₀ (c : Thread nD τ) none) Set.univ
          (.op (.enqueueDma (slotM c) (.remote (Dev.tc (⟨f c, lt c⟩ : Dev nD) : Thread nD τ) (slotM c) sS hsc) rS hsrc hdst hsem) k) Q := by
  subst hsS hrS
  iintro ⟨#HR, HS, Hrest⟩
  iapply (send_step m ρ K c ⟨f c, lt c⟩ O ⟨j, hj⟩ (Fin.ext (hf c))) $$ [HS]
  · isplitr; · iexact HR
    iexact HS
  iintro HS
  iapply h
  isplitr; · iexact HR
  isplitl [HS] <;> iassumption

/-- The next wait on a send semaphore. -/
theorem wait_snd_rule {s : DmaSem sig} {j j' : ℕ} {hsrc hdst : (slotM c).view.WordExact} (hj : j < 15) (hs : csem (kSnd ⟨j, hj⟩) = .dma s)
    (h : iprop(recs m ρ K ∗ levAts L lv ∗ owing c (0 + owedCnt c kExit 0) ∗ waitSt m ρ c kSnd (j + 1) ∗ waitSt m ρ c kRcv j' ∗ R)
      ⊢ wp frame (wpE (defs₀ (F := F)) 𝒱₀ (c : Thread nD τ) none) Set.univ (k ⟨⟩) Q) :
    iprop(recs m ρ K ∗ levAts L lv ∗ owing c (0 + owedCnt c kExit 0) ∗ waitSt m ρ c kSnd j ∗ waitSt m ρ c kRcv j' ∗ R)
      ⊢ wp frame (wpE (defs₀ (F := F)) 𝒱₀ (c : Thread nD τ) none) Set.univ (.op (.waitDma2 s (slotM c) (slotM c) hsrc hdst) k) Q := by
  iintro ⟨#HR, #HL, HO, HS, HV, Hrest⟩
  iapply (wait_step m ρ K c kSnd ⟨j, hj⟩ hs ⟨rfl, rfl, Nat.zero_le 2⟩
    (fun Kt => (wpE_waitDma2_eq 𝒱₀ (c : Thread nD τ) none Set.univ Kt).trans (by rw [credit_slot]))) $$ [HO HS]
  · isplitr; · iexact HR
    isplitr; · iexact HL
    isplitl [HO] <;> iassumption
  iintro ⟨HO, HS⟩
  iapply h
  isplitr; · iexact HR
  isplitr; · iexact HL
  isplitl [HO]; · iexact HO
  isplitl [HS]; · iexact HS
  isplitl [HV] <;> iassumption

/-- The next wait on a receive semaphore. -/
theorem wait_rcv_rule {s : DmaSem sig} {j j' : ℕ} {hsrc hdst : (slotM c).view.WordExact} (hj : j < 15) (hs : csem (kRcv ⟨j, hj⟩) = .dma s)
    (h : iprop(recs m ρ K ∗ levAts L lv ∗ owing c (0 + owedCnt c kExit 0) ∗ waitSt m ρ c kSnd j' ∗ waitSt m ρ c kRcv (j + 1) ∗ R)
      ⊢ wp frame (wpE (defs₀ (F := F)) 𝒱₀ (c : Thread nD τ) none) Set.univ (k ⟨⟩) Q) :
    iprop(recs m ρ K ∗ levAts L lv ∗ owing c (0 + owedCnt c kExit 0) ∗ waitSt m ρ c kSnd j' ∗ waitSt m ρ c kRcv j ∗ R)
      ⊢ wp frame (wpE (defs₀ (F := F)) 𝒱₀ (c : Thread nD τ) none) Set.univ (.op (.waitDma2 s (slotM c) (slotM c) hsrc hdst) k) Q := by
  iintro ⟨#HR, #HL, HO, HS, HV, Hrest⟩
  iapply (wait_step m ρ K c kRcv ⟨j, hj⟩ hs ⟨rfl, rfl, Nat.le_refl 2⟩
    (fun Kt => (wpE_waitDma2_eq 𝒱₀ (c : Thread nD τ) none Set.univ Kt).trans (by rw [credit_slot]))) $$ [HO HV]
  · isplitr; · iexact HR
    isplitr; · iexact HL
    isplitl [HO] <;> iassumption
  iintro ⟨HO, HV⟩
  iapply h
  isplitr; · iexact HR
  isplitr; · iexact HL
  isplitl [HO]; · iexact HO
  isplitl [HS]; · iexact HS
  isplitl [HV] <;> iassumption

end Rules

end Cert.KernelIdeal.Exchange

end
-- ==== Proof.KernelIdeal.Body.lean ====
/-
The kernel's body on one device, executed against the exchange's schedule: what it starts from, what it leaves, and the
proof that it gets from the one to the other.
-/
module

public import proofs.«01_k».proof.Proof.KernelIdeal.Steps
public import proofs.«01_k».proof.Proof.Gen.KernelIdeal.Points

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over kinds of cells and over devices -/

/-- A family over a device's scoped cells: the exit counter, the sends, the receives. -/
theorem own_eq (Φ : KO → sProp 𝕄) : bigSep Finset.univ Φ
    = iprop(Φ (.inl ()) ∗ (bigSep Finset.univ fun d => Φ (.inr (.inl d))) ∗ bigSep Finset.univ fun d => Φ (.inr (.inr d))) := by
  rw [bigSep_univ_sum, bigSep_univ_sum]
  congr 1
  exact bigSep_singleton

/-- A family over all of a device's cells: the barrier first. -/
theorem kinds_eq (Φ : KI → sProp 𝕄) : bigSep Finset.univ Φ = iprop(Φ kBar ∗ bigSep Finset.univ fun k : KO => Φ (.inr k)) := by
  rw [bigSep_univ_sum]
  congr 1
  exact bigSep_singleton

/-- A family over the devices: device `c`'s member and one for each distance after it. -/
theorem around_fwd (c : Dev nD) (Φ : Dev nD → sProp 𝕄) :
    bigSep Finset.univ Φ = iprop(Φ c ∗ bigSep Finset.univ fun d : Fin 15 => Φ (fwd d c)) := by
  have h : (Finset.univ : Finset (Dev nD)) = insert c (Finset.univ.map ⟨fun d : Fin 15 => fwd d c, fun a b => fwd_inj c a b⟩) := by
    ext p
    simp only [Finset.mem_univ, Finset.mem_insert, Finset.mem_map, Function.Embedding.coeFn_mk, true_and, true_iff]
    by_cases hp : p = c
    · exact Or.inl hp
    · exact Or.inr (exists_fwd c p hp)
  rw [h, bigSep_insert (by simp only [Finset.mem_map, Function.Embedding.coeFn_mk, not_exists, not_and]; exact fun d _ => fwd_ne d c), bigSep_map]
  rfl

/-- The same counting backwards. -/
theorem around_bwd (c : Dev nD) (Φ : Dev nD → sProp 𝕄) :
    bigSep Finset.univ Φ = iprop(Φ c ∗ bigSep Finset.univ fun d : Fin 15 => Φ (bwd d c)) := by
  have h : (Finset.univ : Finset (Dev nD)) = insert c (Finset.univ.map ⟨fun d : Fin 15 => bwd d c, fun a b => bwd_inj c a b⟩) := by
    ext p
    simp only [Finset.mem_univ, Finset.mem_insert, Finset.mem_map, Function.Embedding.coeFn_mk, true_and, true_iff]
    by_cases hp : p = c
    · exact Or.inl hp
    · exact Or.inr (exists_bwd c p hp)
  rw [h, bigSep_insert (by simp only [Finset.mem_map, Function.Embedding.coeFn_mk, not_exists, not_and]; exact fun d _ => bwd_ne d c), bigSep_map]
  rfl

theorem bwd_rev (c : Dev nD) (d : Fin 15) : bwd (Fin.revPerm d) c = fwd d c := by revert c d; decide +kernel

/-! ## What the body starts from and what it leaves -/

/-- The device's positions at round 0 of all its cells. -/
def poss (c : Dev nD) : sProp 𝕄 := bigSep Finset.univ fun k : KI => atPos ER (kcell c k) 0 ∅ 0

/-- The tokens it pays with: one unit on every other device's barrier and exit counter, its sends, its targets' receives. -/
def toks (c : Dev nD) : sProp 𝕄 :=
  iprop((bigSep Finset.univ fun d : Fin 15 => dutyTok ER (kcell (fwd d c) kBar) 0 d)
    ∗ (bigSep Finset.univ fun d : Fin 15 => dutyTok ER (kcell (fwd d c) kExit) 0 d)
    ∗ (bigSep Finset.univ fun d : Fin 15 => dutyTok ER (kcell c (kSnd d)) 0 0)
    ∗ bigSep Finset.univ fun d : Fin 15 => dutyTok ER (kcell (fwd d c) (kRcv d)) 0 0)

/-- The credits it waits with, given at launch. -/
def creds (c : Dev nD) : sProp 𝕄 :=
  iprop(cred (tallyAt (kcell c kBar) () 15) ∗ cred (tallyAt (kcell c kExit) () 15)
    ∗ bigSep Finset.univ fun d : Fin 15 => cred (tallyAt (kcell c (kRcv d)) () N))

def ghost (K : Dev nD × KI → ℕ) (c : Dev nD) : sProp 𝕄 := iprop(recs m ρ K ∗ poss c ∗ toks c)

/-- What device `c`'s body starts from, its gather buffer apart. -/
def start (c : Dev nD) : sProp 𝕄 := iprop((∃ K, ghost m ρ K c) ∗ creds c ∗ levAts L lv)

/-- Device `c`'s gather buffer, whole. -/
def gPts (c : Dev nD) (f : Buf (Elt F) ((c : Thread nD τ).loc cc0_scratch0)) : sProp 𝕄 := ((c : Thread nD τ).loc cc0_scratch0) ↦{fullShare} f

def Φ₀ (c : Dev nD) : sProp 𝕄 := iprop(start m ρ c ∗ ∃ f, gPts c f)
/-- After the body: the gathered buffer, and every cell's counter at zero. -/
def Φ₁ (c : Dev nD) : sProp 𝕄 :=
  iprop(gPts c (gath m ρ) ∗ (bigSep Finset.univ fun k : KO => semVal (kcell c (.inr k)) 0) ∗ semVal (kcell c kBar) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => tstg m ρ c
    | ⟨2, _⟩ => sstg m ρ c
    | ⟨3, _⟩ => hstg m ρ c
    | ⟨4, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × KI → ℕ) (c : Dev nD) : sProp 𝕄 :=
  iprop((ghost m ρ K c ∗ creds c ∗ levAts L lv ∗ ∃ f, gPts c f)
    ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ m ρ c ∗ (dats m ρ 0 c).owesAt () t0_0.succ ∗ stg c cc0_stg0_0 (xstg m ρ c) ∗ stg c cc0_stg1_0 (tstg m ρ c)
    ∗ stg c cc0_stg2_0 (sstg m ρ c) ∗ stg c cc0_stg3_0 (hstg m ρ c) ∗ stg c cc0_stg4_0 (outAt m ρ c))

/-! ## Loads and stores of whole buffers -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem read_x (f : (cc0_stg0_0 : Ref sig .tc).ty.Contents (Elt F)) :
    (Memref.whole cc0_stg0_0 : Memref sig .tc .vmem S4x512x256 .f32).view.readAt (Elt F) (Rect.unit (s := S4x512x256) ![0, 0, 0] S4x512x256.size inb_S4x512x256_S4x512x256_0_0_0).toLoadRect f = f :=
  Memref.readAt_unit_zero (Elt F) cc0_stg0_0 hz3 _ f
theorem read_t (f : (cc0_stg1_0 : Ref sig .tc).ty.Contents (Elt F)) :
    (Memref.whole cc0_stg1_0 : Memref sig .tc .vmem S4x128 .f32).view.readAt (Elt F) (Rect.unit (s := S4x128) ![0, 0] S4x128.size inb_S4x128_S4x128_0_0).toLoadRect f = f :=
  Memref.readAt_unit_zero (Elt F) cc0_stg1_0 hz2 _ f
theorem read_s (f : (cc0_stg2_0 : Ref sig .tc).ty.Contents (Elt F)) :
    (Memref.whole cc0_stg2_0 : Memref sig .tc .vmem S128x256 .f32).view.readAt (Elt F) (Rect.unit (s := S128x256) ![0, 0] S128x256.size inb_S128x256_S128x256_0_0).toLoadRect f = f :=
  Memref.readAt_unit_zero (Elt F) cc0_stg2_0 hz2 _ f
theorem read_h (f : (cc0_stg3_0 : Ref sig .tc).ty.Contents (Elt F)) :
    (Memref.whole cc0_stg3_0 : Memref sig .tc .vmem S128x256 .f32).view.readAt (Elt F) (Rect.unit (s := S128x256) ![0, 0] S128x256.size inb_S128x256_S128x256_0_0).toLoadRect f = f :=
  Memref.readAt_unit_zero (Elt F) cc0_stg3_0 hz2 _ f
theorem read_g (f : (cc0_scratch0 : Ref sig .tc).ty.Contents (Elt F)) :
    (Memref.whole cc0_scratch0 : Memref sig .tc .vmem S16x2x4x512 .f32).view.readAt (Elt F) (Rect.unit (s := S16x2x4x512) ![0, 0, 0, 0] S16x2x4x512.size inb_S16x2x4x512_S16x2x4x512_0_0_0_0).toLoadRect f = f :=
  Memref.readAt_unit_zero (Elt F) cc0_scratch0 hz4 _ f
theorem write_out (f w : (cc0_stg4_0 : Ref sig .tc).ty.Contents (Elt F)) :
    ((Memref.whole cc0_stg4_0 : Memref sig .tc .vmem S4x512x256 .f32).access (Rect.unit (s := S4x512x256) ![0, 0, 0] S4x512x256.size inb_S4x512x256_S4x512x256_0_0_0) : View sig .tc _ _ _).write (Elt F) f w Finset.univ = w :=
  Memref.write_access_unit_zero_univ (Elt F) cc0_stg4_0 hz3 _ f w

/-- The device's own slot as its vector store addresses it. -/
abbrev slotR (c : Dev nD) : Rect S16x2x4x512 := Rect.unit (s := S16x2x4x512) (k0_off1 c) S1x2x4x512.size (k0_off1_inb c)

/-- The store of the partial sums leaves the device's own slot as it will be when all have arrived. -/
theorem store_slot (c : Dev nD) (f : (cc0_scratch0 : Ref sig .tc).ty.Contents (Elt F)) {i : S16x2x4x512.Idx} (hi : i ∈ slotSet c) :
    (gM.access (slotR c) : View sig .tc _ _ _).write (Elt F) f (k0_pay2 (xstg m ρ c)) Finset.univ i = gath m ρ i := by
  have h0 := (mem_slotSet c i).mp hi
  have he : (gM.access (slotR c) : View sig .tc _ _ _).emb (inSlot i) = i := by
    funext a
    apply Fin.ext
    show k0_off1 c a + 1 * (inSlot i a).val = (i a).val
    rw [k0_off1_eq]
    fin_cases a
    · show c.val + 1 * 0 = (i 0).val; omega
    · show 0 + 1 * (i 1).val = (i 1).val; omega
    · show 0 + 1 * (i 2).val = (i 2).val; omega
    · show 0 + 1 * (i 3).val = (i 3).val; omega
  have hd : (⟨(i 0).val, (i 0).isLt⟩ : Dev nD) = c := Fin.ext h0
  refine ((congrArg _ he.symm).trans (View.write_emb_of_mem _ _ (Finset.mem_univ (inSlot i)))).trans ?_
  unfold gath
  rw [hd]
  rfl

end Cert.KernelIdeal.Exchange

end
-- ==== Proof.KernelIdeal.Sound.lean ====
/-
The body's proof: the regroupings between its phases, then its effects in program order.
-/
module

public import proofs.«01_k».proof.Proof.KernelIdeal.Body

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Between the phases -/

/-- Before the barrier signals: the buffer, its own slot filled, is that slot and the payments of the fifteen signals. -/
theorem enter_bar (c : Dev nD) (f : Buf (Elt F) ((c : Thread nD τ).loc cc0_scratch0)) (hf : ∀ i ∈ slotSet c, f i = gath m ρ i) :
    iprop(gPts c f ∗ bigSep Finset.univ fun d : Fin 15 => dutyTok ER (kcell (fwd d c) kBar) 0 d)
      ⊢ iprop(slotPts c c fullShare (gath m ρ)
          ∗ bigSep (finFrom 15 0) fun d => iprop(dutyTok ER (kcell (fwd d c) kBar) 0 d ∗ pay m ρ (fwd d c) kBar d)) := by
  have h1 : slotPts c c fullShare f = (slotPts c c fullShare (gath m ρ) : sProp 𝕄) := by
    unfold slotPts; exact pointsTo_congr hf
  have h2 : (bigSep Finset.univ fun d : Fin 15 => slotPts c (fwd d c) fullShare f : sProp 𝕄)
      ⊢ bigSep Finset.univ fun d : Fin 15 => pay m ρ (fwd d c) kBar d := by
    have h : ∀ d : Fin 15, slotPts c (fwd d c) fullShare f ⊢ pay m ρ (fwd d c) kBar d := fun d => by
      dsimp only [pay]; rw [bwd_fwd]
      iintro H; iexists f; iexact H
    exact bigSep_mono fun d _ => h d
  unfold gPts
  rw [slots_eq, around_fwd c, h1, finFrom_zero, bigSep_sep']
  iintro ⟨⟨Hc, Hs⟩, Ht⟩
  isplitl [Hc]; · iexact Hc
  isplitl [Ht]; · iexact Ht
  iapply h2; iexact Hs

/-- Before the copies: the own slot is cut into fifteen read shares and a remainder, and the slots received with the barrier are
    the copies' destinations. -/
theorem enter_send (c : Dev nD) :
    iprop(slotPts c c fullShare (gath m ρ)
        ∗ (bigSep Finset.univ fun d : Fin 15 => dutyTok ER (kcell c (kSnd d)) 0 0)
        ∗ (bigSep Finset.univ fun d : Fin 15 => dutyTok ER (kcell (fwd d c) (kRcv d)) 0 0)
        ∗ bigSep Finset.univ fun d : Fin 15 => pay m ρ c kBar d)
      ⊢ iprop(slotPts c c (Transfers.shareDrop fullShare 15) (gath m ρ)
          ∗ (bigSep (finFrom 15 0) fun d => iprop(dutyTok ER (kcell c (kSnd d)) 0 0 ∗ dutyTok ER (kcell (fwd d c) (kRcv d)) 0 0
              ∗ slotPts c c (Transfers.shareTok fullShare 15 d) (gath m ρ) ∗ ∃ f, slotPts (fwd d c) c fullShare f))) := by
  have h1 : (bigSep Finset.univ fun d : Fin 15 => pay m ρ c kBar d)
      = (bigSep Finset.univ fun d : Fin 15 => iprop(∃ f, slotPts (fwd d c) c fullShare f) : sProp 𝕄) := by
    rw [bigSep_univ_equiv (Fin.revPerm (n := 15))]
    refine bigSep_congr fun d _ => ?_
    dsimp only [pay]; rw [bwd_rev]
  have h2 : slotPts c c fullShare (gath m ρ)
      ⊢ iprop(slotPts c c (Transfers.shareDrop fullShare 15) (gath m ρ)
          ∗ bigSep Finset.univ fun d : Fin 15 => (slotPts c c (Transfers.shareTok fullShare 15 d) (gath m ρ) : sProp 𝕄)) := by
    unfold slotPts; exact Transfers.pointsTo_toks_split fullShare 15
  rw [h1, finFrom_zero, bigSep_sep', bigSep_sep', bigSep_sep']
  iintro ⟨Hc, Hs, Hr, Hp⟩
  ihave Hc2 := h2 $$ Hc
  icases Hc2 with ⟨Hd, Ht⟩
  isplitl [Hd]; · iexact Hd
  isplitl [Hs]; · iexact Hs
  isplitl [Hr]; · iexact Hr
  isplitl [Ht] <;> iassumption

/-- After the waits: the read shares return to the own slot, the other slots have arrived, and the buffer is whole. -/
theorem leave (c : Dev nD) :
    iprop(slotPts c c (Transfers.shareDrop fullShare 15) (gath m ρ)
        ∗ (bigSep Finset.univ fun d : Fin 15 => pay m ρ c (kSnd d) 0) ∗ bigSep Finset.univ fun d : Fin 15 => pay m ρ c (kRcv d) 0)
      ⊢ gPts c (gath m ρ) := by
  have h2 : iprop(slotPts c c (Transfers.shareDrop fullShare 15) (gath m ρ)
          ∗ bigSep Finset.univ fun d : Fin 15 => (slotPts c c (Transfers.shareTok fullShare 15 d) (gath m ρ) : sProp 𝕄))
      ⊢ slotPts c c fullShare (gath m ρ) := by
    unfold slotPts; exact Transfers.pointsTo_toks_join fullShare 15
  unfold gPts
  rw [slots_eq, around_bwd c]
  iintro ⟨Hd, Hs, Hr⟩
  isplitl [Hd Hs]
  · iapply h2
    isplitl [Hd]; · iexact Hd
    iexact Hs
  iexact Hr

/-- The exit signals carry no payment. -/
theorem exit_toks (c : Dev nD) : (bigSep Finset.univ fun d : Fin 15 => (dutyTok ER (kcell (fwd d c) kExit) 0 d : sProp 𝕄))
    ⊢ bigSep (finFrom 15 0) fun d => iprop(dutyTok ER (kcell (fwd d c) kExit) 0 d ∗ pay m ρ (fwd d c) kExit d) := by
  rw [finFrom_zero]
  have h : ∀ d : Fin 15, (dutyTok ER (kcell (fwd d c) kExit) 0 d : sProp 𝕄)
      ⊢ iprop(dutyTok ER (kcell (fwd d c) kExit) 0 d ∗ pay m ρ (fwd d c) kExit d) := fun d => by
    iintro H
    isplitl [H]; · iexact H
    dsimp only [pay]; iempintro
  exact bigSep_mono fun d _ => h d

/-- All signals of a counter sent: nothing of it is owed. -/
theorem sig_end (c : Dev nD) (q : KI) (O : CellTallies nD τ sig Unit) : sigSt m ρ c q O 15 ⊢ owing c O := by
  unfold sigSt
  rw [owedCnt_end, add_zero]
  exact sep_elim_left

/-- All copies sent: the send credits are in hand and no receive credit is owed. -/
theorem send_end (c : Dev nD) (O : CellTallies nD τ sig Unit) :
    sendSt m ρ c O 15 ⊢ iprop(owing c O ∗ bigSep Finset.univ fun d : Fin 15 => cred (tallyAt (kcell c (kSnd d)) () N)) := by
  unfold sendSt
  rw [owedRcv_end, add_zero, bigSep_finUpTo_self]
  iintro ⟨HO, -, Hc⟩
  isplitl [HO] <;> iassumption

/-- Before the waits on a family of cells: its credits and positions. -/
theorem wait_start (c : Dev nD) (q : Fin 15 → KI) :
    iprop((bigSep Finset.univ fun d : Fin 15 => cred (tallyAt (kcell c (q d)) () N)) ∗ bigSep Finset.univ fun d : Fin 15 => atPos ER (kcell c (q d)) 0 ∅ 0)
      ⊢ waitSt m ρ c q 0 := by
  unfold waitSt
  rw [finFrom_zero, bigSep_sep', bigSep_finUpTo_zero]
  iintro ⟨Hc, Ha⟩
  isplitr []
  · isplitl [Hc] <;> iassumption
  iempintro

/-- After them: the counters at zero and the payments. -/
theorem wait_end (c : Dev nD) (q : Fin 15 → KI) :
    waitSt m ρ c q 15 ⊢ iprop((bigSep Finset.univ fun d : Fin 15 => semVal (kcell c (q d)) 0) ∗ bigSep Finset.univ fun d : Fin 15 => pay m ρ c (q d) 0) := by
  unfold waitSt
  rw [bigSep_finUpTo_self, bigSep_sep', bigSep_sep']
  iintro ⟨-, H⟩
  iexact H

/-! ## The body -/

variable (K : Dev nD × KI → ℕ)

/-- What a device holds of its staging buffers, with its result buffer at `fo`. -/
def staged (c : Dev nD) (fo : (cc0_stg4_0 : Ref sig .tc).ty.Contents (Elt F)) : sProp 𝕄 :=
  iprop((((c : Thread nD τ).loc cc0_stg0_0) ↦{fullShare} xstg m ρ c) ∗ (((c : Thread nD τ).loc cc0_stg1_0) ↦{fullShare} tstg m ρ c)
    ∗ (((c : Thread nD τ).loc cc0_stg2_0) ↦{fullShare} sstg m ρ c) ∗ (((c : Thread nD τ).loc cc0_stg3_0) ↦{fullShare} hstg m ρ c)
    ∗ (((c : Thread nD τ).loc cc0_stg4_0) ↦{fullShare} fo))

set_option maxHeartbeats 4000000 in
set_option maxRecDepth 20000 in
/-- The body, executed from `bodyPre`, one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) cc0_scratch1 cc0_scratch2 cc0_scratch3) Kt := by
  simp only [cc0_body_eq_skeleton, cc0_body_skel,
    k0_part1_eq_skeleton, k0_part1_skel, k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel, k0_part16_eq_skeleton, k0_part16_skel,
    k0_part17_eq_skeleton, k0_part17_skel, k0_part18_eq_skeleton, k0_part18_skel, k0_part19_eq_skeleton, k0_part19_skel, k0_part20_eq_skeleton, k0_part20_skel,
    k0_part21_eq_skeleton, k0_part21_skel, k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel, k0_part28_eq_skeleton, k0_part28_skel,
    k0_part29_eq_skeleton, k0_part29_skel, k0_part30_eq_skeleton, k0_part30_skel, k0_part31_eq_skeleton, k0_part31_skel, k0_part32_eq_skeleton, k0_part32_skel,
    semSignalWord, semWaitWord, Prog.lift, Prog.bind_op, Prog.bind_ret, Prog.pure_eq_ret, wp_deviceId]
  unfold bodyPre ghost poss toks creds
  rw [kinds_eq, own_eq]
  iintro ⟨⟨⟨⟨#HR, ⟨HatB, HatX, HatS, HatV⟩, HtB, HtX, HtS, HtV⟩, ⟨HcB, HcX, HcV⟩, #Hlev, ⟨%f0, Hg⟩⟩,
    Ho, ⟨%d0, %g0, %hg0, Hx⟩, ⟨%d1, %g1, %hg1, Ht⟩, ⟨%d2, %g2, %hg2, Hs⟩, ⟨%d3, %g3, %hg3, Hh⟩, ⟨%d4, %g4, %hg4, Hout⟩⟩, Hk⟩
  have hx : g0 = xstg m ρ c := by rw [hg0]; unfold Dat.before; rw [if_pos (fetch0_0 t0_0)]; rfl
  have ht : g1 = tstg m ρ c := by rw [hg1]; unfold Dat.before; rw [if_pos (fetch0_1 t0_0)]; rfl
  have hs : g2 = sstg m ρ c := by rw [hg2]; unfold Dat.before; rw [if_pos (fetch0_2 t0_0)]; rfl
  have hh : g3 = hstg m ρ c := by rw [hg3]; unfold Dat.before; rw [if_pos (fetch0_3 t0_0)]; rfl
  subst hx ht hs hh
  unfold Dat.owesAt Pipeline.owesWithin
  icases Ho with ⟨%W, %hW, HO⟩
  rw [show (dats m ρ 0 c).owed t0_0.castSucc = O₀ c from rfl]
  unfold gPts
  -- the partial sums, stored into the device's own slot
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := gM) (Finset.subset_univ _)) $$ Hg; iintro Hg
  iapply (wp_store 𝒱₀ (c : Thread nD τ) none Set.univ (m := gM) (r := slotR c) (Mk := Finset.univ) (Finset.subset_univ _)) $$ Hg; iintro Hg
  ihave H := (enter_bar m ρ c _ (fun i hi => store_slot m ρ c f0 hi)) $$ [Hg HtB]
  · isplitl [Hg]; · unfold gPts; iexact Hg
    iexact HtB
  icases H with ⟨Hown, HB⟩
  -- the barrier signals
  ihave H : iprop(recs m ρ K ∗ sigSt m ρ c kBar (owedCnt c kExit 0 + owedRcv c 0) 0
      ∗ levAts L lv ∗ slotPts c c fullShare (gath m ρ)
      ∗ atPos ER (kcell c kBar) 0 ∅ 0 ∗ cred (tallyAt (kcell c kBar) () 15)
      ∗ atPos ER (kcell c kExit) 0 ∅ 0 ∗ cred (tallyAt (kcell c kExit) () 15)
      ∗ (bigSep Finset.univ fun d : Fin 15 => dutyTok ER (kcell (fwd d c) kExit) 0 d)
      ∗ (bigSep Finset.univ fun d : Fin 15 => dutyTok ER (kcell c (kSnd d)) 0 0)
      ∗ (bigSep Finset.univ fun d : Fin 15 => dutyTok ER (kcell (fwd d c) (kRcv d)) 0 0)
      ∗ (bigSep Finset.univ fun d : Fin 15 => atPos ER (kcell c (kSnd d)) 0 ∅ 0)
      ∗ (bigSep Finset.univ fun d : Fin 15 => atPos ER (kcell c (kRcv d)) 0 ∅ 0)
      ∗ (bigSep Finset.univ fun d : Fin 15 => cred (tallyAt (kcell c (kRcv d)) () N))
      ∗ staged m ρ c g4 ∗ (bodyPost m ρ c -∗ Kt ⟨⟩))
    $$ [HO HB Hown HatB HcB HatX HcX HtX HtS HtV HatS HatV HcV Hx Ht Hs Hh Hout Hk]
  · isplitr; · iexact HR
    isplitl [HO HB]
    · unfold sigSt owing
      isplitl [HO]; · iexists W; iexact HO
      iexact HB
    isplitr; · iexact Hlev
    isplitl [Hown]; · iexact Hown
    isplitl [HatB]; · iexact HatB
    isplitl [HcB]; · iexact HcB
    isplitl [HatX]; · iexact HatX
    isplitl [HcX]; · iexact HcX
    isplitl [HtX]; · iexact HtX
    isplitl [HtS]; · iexact HtS
    isplitl [HtV]; · iexact HtV
    isplitl [HatS]; · iexact HatS
    isplitl [HatV]; · iexact HatV
    isplitl [HcV]; · iexact HcV
    isplitr [Hk]
    · unfold staged
      isplitl [Hx]; · iexact Hx
      isplitl [Ht]; · iexact Ht
      isplitl [Hs]; · iexact Hs
      isplitl [Hh] <;> iassumption
    iexact Hk
  iclear HR Hlev
  istop
  iterate 15 refine sig_rule kBar rfl ⟨rfl, rfl⟩ rfl (by decide) (by decide +kernel) ?_
  -- the barrier wait, paid with the slots to fill
  iintro ⟨#HR, HS, #Hlev, Hown, HatB, HcB, HatX, HcX, HtX, HtS, HtV, HatS, HatV, HcV, Hst, Hk⟩
  ihave HO := (sig_end m ρ c kBar (owedCnt c kExit 0 + owedRcv c 0)) $$ HS
  iapply (wait_close m ρ K c kBar (sm := .reg barS) rfl (O := owedCnt c kExit 0 + owedRcv c 0)
    (fun Kt => wpE_semWait_eq 𝒱₀ (c : Thread nD τ) none Set.univ Kt) (by decide)) $$ [HO HcB HatB]
  · isplitr; · iexact HR
    isplitr
    · iapply (mayWait_of c (.reg barS) 1 (by rw [show SemLoc.reg barS = csem kBar from rfl, kindOf_csem]; exact Nat.le_refl 1) (fun g u h => owed_exit_rcv h)); iexact Hlev
    isplitl [HO]; · iexact HO
    isplitl [HcB]; · iexact HcB
    iexact HatB
  iintro ⟨HO, HzB, Hp⟩
  ihave H := (enter_send m ρ c) $$ [Hown HtS HtV Hp]
  · isplitl [Hown]; · iexact Hown
    isplitl [HtS]; · iexact HtS
    isplitl [HtV]; · iexact HtV
    iexact Hp
  icases H with ⟨Hdrop, Hsend⟩
  ihave H : iprop(recs m ρ K ∗ sendSt m ρ c (owedCnt c kExit 0) 0
      ∗ levAts L lv ∗ slotPts c c (Transfers.shareDrop fullShare 15) (gath m ρ)
      ∗ semVal (kcell c kBar) 0
      ∗ atPos ER (kcell c kExit) 0 ∅ 0 ∗ cred (tallyAt (kcell c kExit) () 15)
      ∗ (bigSep Finset.univ fun d : Fin 15 => dutyTok ER (kcell (fwd d c) kExit) 0 d)
      ∗ (bigSep Finset.univ fun d : Fin 15 => atPos ER (kcell c (kSnd d)) 0 ∅ 0)
      ∗ (bigSep Finset.univ fun d : Fin 15 => atPos ER (kcell c (kRcv d)) 0 ∅ 0)
      ∗ (bigSep Finset.univ fun d : Fin 15 => cred (tallyAt (kcell c (kRcv d)) () N))
      ∗ staged m ρ c g4 ∗ (bodyPost m ρ c -∗ Kt ⟨⟩))
    $$ [HO Hsend Hdrop HzB HatX HcX HtX HatS HatV HcV Hst Hk]
  · isplitr; · iexact HR
    isplitl [HO Hsend]
    · unfold sendSt
      isplitl [HO]; · iexact HO
      isplitl [Hsend]; · iexact Hsend
      rw [bigSep_finUpTo_zero]; iempintro
    isplitr; · iexact Hlev
    isplitl [Hdrop]; · iexact Hdrop
    isplitl [HzB]; · iexact HzB
    isplitl [HatX]; · iexact HatX
    isplitl [HcX]; · iexact HcX
    isplitl [HtX]; · iexact HtX
    isplitl [HatS]; · iexact HatS
    isplitl [HatV]; · iexact HatV
    isplitl [HcV]; · iexact HcV
    isplitl [Hst] <;> iassumption
  iclear HR Hlev
  istop
  iterate 15 refine send_rule (by decide) rfl rfl (by decide +kernel) ?_
  -- the waits on the copies
  iintro ⟨#HR, HS, #Hlev, Hdrop, HzB, HatX, HcX, HtX, HatS, HatV, HcV, Hst, Hk⟩
  ihave H := (send_end m ρ c (owedCnt c kExit 0)) $$ HS
  icases H with ⟨HO, HcS⟩
  ihave H : iprop(recs m ρ K ∗ levAts L lv ∗ owing c (0 + owedCnt c kExit 0) ∗ waitSt m ρ c kSnd 0 ∗ waitSt m ρ c kRcv 0
      ∗ slotPts c c (Transfers.shareDrop fullShare 15) (gath m ρ)
      ∗ semVal (kcell c kBar) 0
      ∗ atPos ER (kcell c kExit) 0 ∅ 0 ∗ cred (tallyAt (kcell c kExit) () 15)
      ∗ (bigSep Finset.univ fun d : Fin 15 => dutyTok ER (kcell (fwd d c) kExit) 0 d)
      ∗ staged m ρ c g4 ∗ (bodyPost m ρ c -∗ Kt ⟨⟩))
    $$ [HO HcS HatS HcV HatV Hdrop HzB HatX HcX HtX Hst Hk]
  · isplitr; · iexact HR
    isplitr; · iexact Hlev
    isplitl [HO]; · rw [zero_add]; iexact HO
    isplitl [HcS HatS]
    · iapply (wait_start m ρ c kSnd)
      isplitl [HcS] <;> iassumption
    isplitl [HcV HatV]
    · iapply (wait_start m ρ c kRcv)
      isplitl [HcV] <;> iassumption
    isplitl [Hdrop]; · iexact Hdrop
    isplitl [HzB]; · iexact HzB
    isplitl [HatX]; · iexact HatX
    isplitl [HcX]; · iexact HcX
    isplitl [HtX]; · iexact HtX
    isplitl [Hst] <;> iassumption
  iclear HR Hlev
  istop
  iterate 15
    refine wait_snd_rule (by decide) rfl ?_
    refine wait_rcv_rule (by decide) rfl ?_
  -- the gathered buffer, read
  iintro ⟨#HR, #Hlev, HO, HS, HV, Hdrop, HzB, HatX, HcX, HtX, Hst, Hk⟩
  ihave HS' := (wait_end m ρ c kSnd) $$ HS
  icases HS' with ⟨HzS, HpS⟩
  ihave HV' := (wait_end m ρ c kRcv) $$ HV
  icases HV' with ⟨HzV, HpV⟩
  ihave Hg := (leave m ρ c) $$ [Hdrop HpS HpV]
  · isplitl [Hdrop]; · iexact Hdrop
    isplitl [HpS] <;> iassumption
  unfold gPts
  iapply (wp_load 𝒱₀ (c : Thread nD τ) none Set.univ (m := gM) (Finset.subset_univ _)) $$ Hg; iintro Hg
  rw [read_g]
  -- the exit signals
  ihave H : iprop(recs m ρ K ∗ sigSt m ρ c kExit 0 0
      ∗ gPts c (gath m ρ)
      ∗ semVal (kcell c kBar) 0
      ∗ (bigSep Finset.univ fun d : Fin 15 => semVal (kcell c (kSnd d)) 0)
      ∗ (bigSep Finset.univ fun d : Fin 15 => semVal (kcell c (kRcv d)) 0)
      ∗ atPos ER (kcell c kExit) 0 ∅ 0 ∗ cred (tallyAt (kcell c kExit) () 15)
      ∗ staged m ρ c g4 ∗ (bodyPost m ρ c -∗ Kt ⟨⟩))
    $$ [HO HtX Hg HzB HzS HzV HatX HcX Hst Hk]
  · isplitr; · iexact HR
    isplitl [HO HtX]
    · unfold sigSt
      isplitl [HO]; · iexact HO
      iapply (exit_toks m ρ c); iexact HtX
    isplitl [Hg]; · unfold gPts; iexact Hg
    isplitl [HzB]; · iexact HzB
    isplitl [HzS]; · iexact HzS
    isplitl [HzV]; · iexact HzV
    isplitl [HatX]; · iexact HatX
    isplitl [HcX]; · iexact HcX
    isplitl [Hst] <;> iassumption
  iclear HR Hlev
  istop
  iterate 15 refine sig_rule kExit rfl ⟨rfl, rfl⟩ rfl (by decide) (by decide +kernel) ?_
  -- the result
  iintro ⟨#HR, HS, Hg, HzB, HzS, HzV, HatX, HcX, Hst, Hk⟩
  ihave HO := (sig_end m ρ c kExit 0) $$ HS
  unfold staged
  icases Hst with ⟨Hx, Ht, Hs, Hh, Hout⟩
  iapply (wp_load 𝒱₀ (c : Thread nD τ) none Set.univ (m := Memref.whole cc0_stg1_0) (Finset.subset_univ _)) $$ Ht; iintro Ht
  iapply (wp_load 𝒱₀ (c : Thread nD τ) none Set.univ (m := Memref.whole cc0_stg2_0) (Finset.subset_univ _)) $$ Hs; iintro Hs
  iapply (wp_load 𝒱₀ (c : Thread nD τ) none Set.univ (m := Memref.whole cc0_stg1_0) (Finset.subset_univ _)) $$ Ht; iintro Ht
  iapply (wp_load 𝒱₀ (c : Thread nD τ) none Set.univ (m := Memref.whole cc0_stg3_0) (Finset.subset_univ _)) $$ Hh; iintro Hh
  rw [read_t, read_s, read_h]
  iapply (wp_load 𝒱₀ (c : Thread nD τ) none Set.univ (m := Memref.whole cc0_stg4_0) (Finset.subset_univ _)) $$ Hout; iintro Hout
  iapply (wp_store 𝒱₀ (c : Thread nD τ) none Set.univ (m := Memref.whole cc0_stg4_0) (r := Rect.unit (s := S4x512x256) ![0, 0, 0] S4x512x256.size inb_S4x512x256_S4x512x256_0_0_0) (Mk := Finset.univ) (Finset.subset_univ _)) $$ Hout; iintro Hout
  rw [write_out]
  -- the exit wait
  iapply (wait_close m ρ K c kExit (sm := .reg exitS) rfl (O := 0)
    (fun Kt => wpE_semWait_eq 𝒱₀ (c : Thread nD τ) none Set.univ Kt) (by decide)) $$ [HO HcX HatX]
  · isplitr; · iexact HR
    isplitr
    · rw [MayWait_zero]; iempintro
    isplitl [HO]; · iexact HO
    isplitl [HcX]; · iexact HcX
    iexact HatX
  iintro ⟨HO, HzX, -⟩
  rw [wp_ret]; imodintro
  iapply Hk
  unfold bodyPost Φ₁ stg
  rw [own_eq]
  isplitl [Hg HzB HzS HzV HzX]
  · isplitl [Hg]; · iexact Hg
    isplitr [HzB]
    · isplitl [HzX]; · iexact HzX
      isplitl [HzS] <;> iassumption
    iexact HzB
  isplitl [HO]
  · unfold Dat.owesAt Pipeline.owesWithin owing
    icases HO with ⟨%W', HO⟩
    iexists W'
    isplitr
    · ipureintro; exact fun _ _ => Or.inl trivial
    iexact HO
  isplitl [Hx]; · (iexists _; isplitr; · (ipureintro; rfl)); iexact Hx
  isplitl [Ht]; · (iexists _; isplitr; · (ipureintro; rfl)); iexact Ht
  isplitl [Hs]; · (iexists _; isplitr; · (ipureintro; rfl)); iexact Hs
  isplitl [Hh]; · (iexists _; isplitr; · (ipureintro; rfl)); iexact Hh
  iexists _; isplitr
  · ipureintro; rfl
  iexact Hout

/-- The body obligation of the pipeline library, on device `c`. -/
theorem body_obligation (c : Dev nD) : BodyObligation (dats (F := F) m ρ 0 c) (defs₀ (F := F)) 𝒱₀ () Set.univ := fun t => by
  rw [fin_N0 t, bigSep_W0, bigSep_W0]
  simp only [owns_whole_eq]
  show iprop(Φ₀ m ρ c ∗ (dats m ρ 0 c).owesAt () t0_0.castSucc
      ∗ (∃ d, stg c cc0_stg0_0 ((dats m ρ 0 c).before (0 : Fin 5) t0_0 d))
      ∗ (∃ d, stg c cc0_stg1_0 ((dats m ρ 0 c).before (1 : Fin 5) t0_0 d))
      ∗ (∃ d, stg c cc0_stg2_0 ((dats m ρ 0 c).before (2 : Fin 5) t0_0 d))
      ∗ (∃ d, stg c cc0_stg3_0 ((dats m ρ 0 c).before (3 : Fin 5) t0_0 d))
      ∗ (∃ d, stg c cc0_stg4_0 ((dats m ρ 0 c).before (4 : Fin 5) t0_0 d)))
    ⊢ wp frame (wpE (defs₀ (F := F)) 𝒱₀ (c : Thread nD τ) none) Set.univ
        (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _)
          (Memref.whole cc0_scratch0) (Memref.isWhole_whole _) cc0_scratch1 cc0_scratch2 cc0_scratch3) (fun _ => bodyPost m ρ c)
  unfold Φ₀ start
  iintro ⟨⟨⟨⟨%K, Hg⟩, Hc, Hl⟩, Hscr⟩, Ho, Hw⟩
  iapply (sound_body m ρ K c fun _ => bodyPost m ρ c)
  unfold bodyPre
  isplitr []
  · isplitl [Hg Hc Hl Hscr]
    · isplitl [Hg]; · iexact Hg
      isplitl [Hc]; · iexact Hc
      isplitl [Hl] <;> iassumption
    isplitl [Ho] <;> iassumption
  · iintro H; iexact H

end Cert.KernelIdeal.Exchange

end
-- ==== Proof.KernelIdeal.Launch.lean ====
/-
The launch: minting the exchange's ghost state, dealing its tokens round the circle, the credits every device starts
with, and the run of the whole program.
-/
module

public import proofs.«01_k».proof.Proof.KernelIdeal.Sound
public import Idealize.ShloMosaic.Lib.Pipeline.CollectiveSegs

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Minting -/

theorem ownSemFacts : Pipeline.OwnSemFacts cfg0.spec osem := by decide +kernel

theorem share_eq (c : Dev nD) (w : Fin cfg0.W) : (dats m ρ 0 c).share w = fullShare := by unfold Dat.share; split <;> rfl

/-- The duties of one device's cells: a payment per distance at each counter, one payment at each transfer cell. -/
abbrev KT : Type := Fin 15 ⊕ (Fin 15 ⊕ (Fin 15 ⊕ Fin 15))
def dutyOf : KT → KI × Fin 15
  | .inl d => (kBar, d)
  | .inr (.inl d) => (kExit, d)
  | .inr (.inr (.inl j)) => (kSnd j, 0)
  | .inr (.inr (.inr j)) => (kRcv j, 0)
theorem dutyOf_inj : ∀ a b : KT, dutyOf a = dutyOf b → a = b := by decide +kernel

def cellAt (ck : Dev nD × KI) : GSem nD τ sig := kcell ck.1 ck.2
theorem cellAt_inj : Function.Injective cellAt := fun a b h => Prod.ext (kcell_inj h).1 (kcell_inj h).2
def tokAt (ct : Dev nD × KT) : GSem nD τ sig × ℕ × Fin 15 := (kcell ct.1 (dutyOf ct.2).1, 0, (dutyOf ct.2).2)
theorem tokAt_inj : Function.Injective tokAt := fun a b h => by
  have h1 := kcell_inj (congrArg Prod.fst h)
  have h2 : (dutyOf a.2).2 = (dutyOf b.2).2 := congrArg (fun x : GSem nD τ sig × ℕ × Fin 15 => x.2.2) h
  exact Prod.ext h1.1 (dutyOf_inj _ _ (Prod.ext h1.2 h2))

def allCells : Finset (GSem nD τ sig) := Finset.univ.map ⟨cellAt, cellAt_inj⟩
def allToks : Finset (GSem nD τ sig × ℕ × Fin 15) := Finset.univ.map ⟨tokAt, tokAt_inj⟩

/-- The ghost state at launch: the pipeline's and the exchange's. -/
def u₀ : UU := (initOf (Pipeline.cells cfgs cellOf_inj) (Pipeline.launchToks cfgs cellOf_inj), initOf allCells allToks)

/-- The tokens of device `c`'s own cells, as minted. -/
def mint (c : Dev nD) : sProp 𝕄 :=
  iprop((bigSep Finset.univ fun d : Fin 15 => dutyTok ER (kcell c kBar) 0 d)
    ∗ (bigSep Finset.univ fun d : Fin 15 => dutyTok ER (kcell c kExit) 0 d)
    ∗ (bigSep Finset.univ fun d : Fin 15 => dutyTok ER (kcell c (kSnd d)) 0 0)
    ∗ bigSep Finset.univ fun d : Fin 15 => dutyTok ER (kcell c (kRcv d)) 0 0)

theorem mint_eq : bigSep allToks (fun x => (dutyTok ER x.1 x.2.1 x.2.2 : sProp 𝕄)) = bigSep Finset.univ fun c : Dev nD => mint c := by
  unfold allToks
  rw [bigSep_map, bigSep_univ_prod]
  refine bigSep_congr fun c _ => ?_
  unfold mint
  rw [bigSep_univ_sum, bigSep_univ_sum, bigSep_univ_sum]
  rfl

/-- A family over the exchange's cells, device by device. -/
theorem cells_eq (Φ : GSem nD τ sig → sProp 𝕄) :
    bigSep allCells Φ = bigSep Finset.univ fun c : Dev nD => bigSep Finset.univ fun k : KI => Φ (kcell c k) := by
  unfold allCells
  rw [bigSep_map, bigSep_univ_prod]
  rfl

/-- What the launch deals device `c`. -/
def dealt (c : Dev nD) : sProp 𝕄 :=
  iprop((bigSep Finset.univ fun k : KI => roundState ER (rd m ρ) (kcell c k) 0)
    ∗ poss c ∗ (bigSep Finset.univ fun k : KI => reached ER (kcell c k) 0) ∗ mint c)

theorem fund_all : BI.own (ER (initOf allCells allToks)) ⊢ (|==> bigSep Finset.univ (dealt m ρ) : sProp 𝕄) := by
  iintro HX
  imod (Rounds.fund ER (rd m ρ) allCells allToks) $$ HX with ⟨Hst, Hr, Hat, Htok⟩
  imodintro
  ihave Hst' := (Entails.of_eq (cells_eq fun g => roundState ER (rd m ρ) g 0)) $$ Hst
  ihave Hat' := (Entails.of_eq (cells_eq (F := F) fun g => atPos ER g 0 ∅ 0)) $$ Hat
  ihave Hr' := (Entails.of_eq (cells_eq (F := F) fun g => reached ER g 0)) $$ Hr
  ihave Htok' := (Entails.of_eq (mint_eq (F := F))) $$ Htok
  unfold dealt poss
  rw [bigSep_sep', bigSep_sep', bigSep_sep']
  isplitl [Hst']; · iexact Hst'
  isplitl [Hat']; · iexact Hat'
  isplitl [Hr'] <;> iassumption

/-! ## Opening the invariants -/

theorem unscoped_eq (c : Dev nD) : (unscopedSems0 c : sProp 𝕄) = semVal (kcell c kBar) 0 := by
  unfold unscopedSems0; rw [bigSep_eq_bigSepL_of_eq [SemLoc.reg barS] (by decide) (by decide)]; rfl

theorem own_sems_eq (c : Dev nD) : (Pipeline.ownSems0 (Ix := Unit) (Name := ℕ) (U := UU) (Lvl := ℕ) (Val := Elt F) (τ := τ) osem c : sProp 𝕄)
    = bigSep Finset.univ fun k : KO => semVal (kcell c (.inr k)) 0 := rfl

/-- On one device, every cell's invariant is allocated at some name. -/
theorem open_cells (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k : KI => iprop(∃ κ : ℕ, cellInv ER (rd m ρ) κ (kcell c k)))
          ∗ poss c ∗ (bigSep Finset.univ fun k : KI => reached ER (kcell c k) 0) ∗ mint c) := by
  have halloc : iprop((bigSep Finset.univ fun k : KI => semVal (kcell c k) 0) ∗ bigSep Finset.univ fun k : KI => roundState ER (rd m ρ) (kcell c k) 0)
      ⊢ (|={Set.univ}=> bigSep Finset.univ fun k : KI => iprop(∃ κ : ℕ, cellInv ER (rd m ρ) κ (kcell c k)) : sProp 𝕄) := by
    rw [← bigSep_sep']
    exact (bigSep_mono fun k _ => (Rounds.body_intro ER (rd m ρ) (kcell c k)).trans inv_alloc).trans (bigSep_fupd _ _)
  have hsems : iprop(Pipeline.ownSems0 (Ix := Unit) (Name := ℕ) (U := UU) (Lvl := ℕ) (Val := Elt F) (τ := τ) osem c ∗ unscopedSems0 c)
      ⊢ (bigSep Finset.univ fun k : KI => semVal (kcell c k) 0 : sProp 𝕄) := by
    rw [kinds_eq, unscoped_eq, own_sems_eq]
    iintro ⟨H1, H2⟩
    isplitl [H2] <;> iassumption
  unfold dealt
  iintro ⟨Hos, Hus, Hst, Hrest⟩
  imod halloc $$ [Hos Hus Hst] with Hinv
  · isplitr [Hst]
    · iapply hsems
      isplitl [Hos] <;> iassumption
    iexact Hst
  imodintro
  isplitl [Hinv] <;> iassumption

/-! ## Dealing the tokens -/

/-- A family over devices and distances, each member counted at the device that lies the distance before. -/
theorem round_circle (Ψ : Dev nD → Fin 15 → sProp 𝕄) :
    (bigSep Finset.univ fun c : Dev nD => bigSep Finset.univ fun d : Fin 15 => Ψ c d)
      = bigSep Finset.univ fun c : Dev nD => bigSep Finset.univ fun d : Fin 15 => Ψ (fwd d c) d := by
  have h (d : Fin 15) : (bigSep Finset.univ fun c : Dev nD => Ψ c d) = bigSep Finset.univ fun c : Dev nD => Ψ (fwd d c) d :=
    bigSep_univ_equiv (turn d) (fun c => Ψ c d)
  rw [Pipeline.bigSep_univ_comm, bigSep_congr fun d _ => h d, Pipeline.bigSep_univ_comm]

theorem toks_dealt : (bigSep Finset.univ fun c : Dev nD => (mint c : sProp 𝕄)) = bigSep Finset.univ fun c : Dev nD => toks c := by
  unfold mint toks
  simp only [bigSep_sep']
  rw [round_circle fun c d => (dutyTok ER (kcell c kBar) 0 d : sProp 𝕄), round_circle fun c d => (dutyTok ER (kcell c kExit) 0 d : sProp 𝕄),
    round_circle fun c d => (dutyTok ER (kcell c (kRcv d)) 0 0 : sProp 𝕄)]

/-- Knowledge that all share joins every device's part. -/
theorem share_all {S : Finset (Dev nD)} {R : sProp 𝕄} [BI.Persistent R] {Φ Ψ : Dev nD → sProp 𝕄}
    (h : ∀ c ∈ S, iprop(R ∗ Φ c) ⊢ Ψ c) : iprop(R ∗ bigSep S Φ) ⊢ bigSep S Ψ :=
  (sep_mono_left (BI.bigSep_of_persistent S R)).trans (by rw [← bigSep_sep']; exact bigSep_mono h)

theorem gather_records :
    (bigSep Finset.univ fun c : Dev nD => iprop((bigSep Finset.univ fun k : KI => iprop(∃ κ : ℕ, cellInv ER (rd m ρ) κ (kcell c k)))
          ∗ poss c ∗ (bigSep Finset.univ fun k : KI => reached ER (kcell c k) 0) ∗ mint c) : sProp 𝕄)
      ⊢ bigSep Finset.univ fun c : Dev nD => iprop(∃ K, ghost m ρ K c) := by
  rw [bigSep_sep', bigSep_sep', bigSep_sep', toks_dealt,
    ← bigSep_univ_prod (fun ck : Dev nD × KI => iprop(∃ κ : ℕ, cellInv ER (rd m ρ) κ (kcell ck.1 ck.2))),
    ← bigSep_univ_prod (fun ck : Dev nD × KI => (reached ER (kcell ck.1 ck.2) 0 : sProp 𝕄))]
  iintro ⟨HI, Hat, #HR, Htok⟩
  ihave HK := (BI.bigSep_exists_pi Finset.univ (fun (ck : Dev nD × KI) (κ : ℕ) => (cellInv ER (rd m ρ) κ (kcell ck.1 ck.2) : sProp 𝕄))) $$ HI
  icases HK with ⟨%K, #HI⟩
  have hone : ∀ c ∈ (Finset.univ : Finset (Dev nD)), iprop(recs m ρ K ∗ (poss c ∗ toks c)) ⊢ iprop(∃ K, ghost m ρ K c) := fun c _ => by
    unfold ghost
    iintro H
    iexists K
    iexact H
  iapply (share_all (R := recs m ρ K) hone)
  isplitr
  · unfold recs; isplitl; · iexact HI
    iexact HR
  rw [bigSep_sep']
  isplitl [Hat] <;> iassumption

/-- The global step of the launch. -/
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ fun c : Dev nD => iprop(∃ K, ghost m ρ K c) :=
  ((bigSep_mono fun c _ => open_cells m ρ c).trans (bigSep_fupd _ _)).trans (BI.fupd_mono (gather_records m ρ))

/-! ## The credits at launch -/

/-- Of a family of debts, each device's to the devices after it, what falls on one cell: the amounts of the distances whose
    cell is of its kind. -/
theorem debt_at (q : Fin 15 → KI) (n : ℕ) (c : Dev nD) (k : KI) :
    ∑ d : Dev nD, (∑ j ∈ finFrom 15 0, (tallyAt (kcell (fwd j d) (q j)) () n : CellTallies nD τ sig Unit)) (kcell c k) ()
      = ∑ j : Fin 15, if q j = k then n else 0 := by
  have h1 (d : Dev nD) : (∑ j ∈ finFrom 15 0, (tallyAt (kcell (fwd j d) (q j)) () n : CellTallies nD τ sig Unit)) (kcell c k) ()
      = ∑ j : Fin 15, if kcell c k = kcell (fwd j d) (q j) then n else 0 := by
    rw [finFrom_zero, Finset.sum_apply, Finsupp.finset_sum_apply]
    refine Finset.sum_congr rfl fun j _ => ?_
    rw [tallyAt_apply]
    simp only [and_true]
  have h2 (j : Fin 15) : (∑ d : Dev nD, if kcell c k = kcell (fwd j d) (q j) then n else 0) = if q j = k then n else 0 := by
    rw [← Equiv.sum_comp (turn j).symm fun d => if kcell c k = kcell (fwd j d) (q j) then n else 0]
    have h3 (d : Dev nD) : (if kcell c k = kcell (fwd j ((turn j).symm d)) (q j) then n else 0) = if d = c then (if q j = k then n else 0) else 0 := by
      rw [show fwd j ((turn j).symm d) = d from fwd_bwd j d]
      by_cases hd : d = c
      · subst hd
        rw [if_pos rfl]
        by_cases hq : q j = k
        · rw [if_pos hq, hq, if_pos rfl]
        · rw [if_neg hq, if_neg fun h => hq (kcell_inj h).2.symm]
      · rw [if_neg hd, if_neg fun h => hd (kcell_inj h).1.symm]
    rw [Finset.sum_congr rfl fun d _ => h3 d, Finset.sum_ite_eq' Finset.univ c, if_pos (Finset.mem_univ _)]
  rw [Finset.sum_congr rfl fun d _ => h1 d, Finset.sum_comm, Finset.sum_congr rfl fun j _ => h2 j]

/-- What all devices together owe a cell. -/
def dueK (k : KI) : ℕ :=
  (∑ j : Fin 15, if kExit = k then 1 else 0) + (∑ j : Fin 15, if kRcv j = k then N else 0) + ∑ j : Fin 15, if kBar = k then 1 else 0

theorem due_at (c : Dev nD) (k : KI) : ∑ d : Dev nD, O₀ d (kcell c k) () = dueK k := by
  unfold O₀ dueK
  simp only [Pi.add_apply, Finsupp.add_apply, Finset.sum_add_distrib]
  unfold owedCnt owedRcv
  rw [debt_at (fun _ => kExit), debt_at kRcv, debt_at (fun _ => kBar)]

theorem due_bar : dueK kBar = 15 := by unfold dueK; simp
theorem due_exit : dueK kExit = 15 := by unfold dueK; simp
theorem due_rcv (j : Fin 15) : dueK (kRcv j) = N := by unfold dueK; simp

theorem launch_at (c : Dev nD) (k : KI) :
    tallyOn (kcell c k) (launchCredit (Pipeline.owing O₀) 0 (kcell c k)) = (tallyAt (kcell c k) () (dueK k) : CellTallies nD τ sig Unit) := by
  unfold tallyAt
  refine congrArg _ (Finsupp.ext fun u => ?_)
  cases u
  rw [Pipeline.launchCredit_owing, Finsupp.single_eq_same, due_at]

theorem creds_intro (c : Dev nD) : (Pipeline.launchCred O₀ c : sProp 𝕄) ⊢ creds c := by
  have h1 : (Pipeline.launchCred O₀ c : sProp 𝕄) ⊢ bigSep Finset.univ fun k : KI => (cred (tallyAt (kcell c k) () (dueK k)) : sProp 𝕄) := by
    unfold Pipeline.launchCred
    refine (bigSep_subset (Finset.subset_univ (Finset.univ.map ⟨csem, csem_inj⟩))).trans ?_
    rw [bigSep_map]
    exact Entails.of_eq (bigSep_congr fun k _ => congrArg cred (launch_at c k))
  have h2 : (bigSep Finset.univ fun d : Fin 15 => (cred (tallyAt (kcell c (kRcv d)) () (dueK (kRcv d))) : sProp 𝕄))
      = bigSep Finset.univ fun d : Fin 15 => cred (tallyAt (kcell c (kRcv d)) () N) :=
    bigSep_congr fun d _ => by rw [due_rcv]
  refine h1.trans ?_
  rw [kinds_eq, own_eq]
  unfold creds
  rw [← h2, due_bar, due_exit]
  iintro ⟨H1, H2, -, H3⟩
  isplitl [H1]; · iexact H1
  isplitl [H2] <;> iassumption

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ∃ K, ghost m ρ K c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ gPts
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, own_sems_eq, unscoped_eq]
  unfold Φ₁ gPts
  iintro ⟨Hr, Hz, HzB⟩
  isplitl [HzB]; · iexact HzB
  isplitl [Hz]; · iexact Hz
  iexists (gath m ρ); iexact Hr

theorem stage_ne : ∀ (w : Fin 5) (s : Fin (spec0 w).nbuf) (k : KI), csem k ≠ .dma ((spec0 w).sem s) := by decide +kernel

theorem waits (c : Dev nD) : (levAts L lv : sProp 𝕄) ⊢ Pipeline.cellsWaits cfgs (dats m ρ) () 0 c :=
  Pipeline.cellsWaits_intro cfgs (dats m ρ) () 0 c fun w s t => by
    have hs : kindOf (.dma (((cfgs 0).win w).sem s)) = none := kindOf_none (stage_ne w s)
    rcases t with ⟨_ | _, ht⟩
    · exact mayWait_of c _ 0 (by rw [hs]; exact Nat.le_refl 0) fun g u h => O₀_pos h
    · exact mayWait_of c _ 0 (by rw [hs]; exact Nat.le_refl 0) fun g u h => absurd h (Nat.lt_irrefl 0)

/-! ## The run -/

/-- What the run leaves in each window's array. -/
def finalA (c : Dev nD) (w : Fin cfg0.W) : Buf (Elt F) ((cfg0.win w).arr.view.loc (c : Thread nD τ)) := (dats m ρ 0 c).arrAt w cfg0.N

def atEnd : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Run on the sixteen devices from any memory with all counters at zero, the program terminates, leaves every array as
    `finalA` says and every counter at zero. -/
theorem run_main : θ_run defs (onTc (τ := τ) (main (F := F))) (s₀ m ρ) (fun r => atEnd m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := fun c => iprop(∃ K, ghost m ρ K c)) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What is left in the arrays -/

theorem final_arg0 (c : Dev nD) : finalA m ρ c (0 : Fin 5) = m ((c : Thread nD τ).loc main_arg0) := (dats (F := F) m ρ 0 c).arrAt_in (0 : Fin 5) rfl _
theorem final_arg1 (c : Dev nD) : finalA m ρ c (1 : Fin 5) = m ((c : Thread nD τ).loc main_arg1) := (dats (F := F) m ρ 0 c).arrAt_in (1 : Fin 5) rfl _
theorem final_arg2 (c : Dev nD) : finalA m ρ c (2 : Fin 5) = m ((c : Thread nD τ).loc main_arg2) := (dats (F := F) m ρ 0 c).arrAt_in (2 : Fin 5) rfl _
theorem final_arg3 (c : Dev nD) : finalA m ρ c (3 : Fin 5) = m ((c : Thread nD τ).loc main_arg3) := (dats (F := F) m ρ 0 c).arrAt_in (3 : Fin 5) rfl _

/-- The run, its arguments kept: the frame. -/
theorem run_frame : θ_run defs (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c => ⟨(h.1 c 0).trans (final_arg0 m ρ c), (h.1 c 1).trans (final_arg1 m ρ c),
    (h.1 c 2).trans (final_arg2 m ρ c), (h.1 c 3).trans (final_arg3 m ρ c)⟩, h.2⟩) (run_main m ρ)

end Cert.KernelIdeal.Exchange

end
-- ==== Proof.KernelIdeal.Result.lean ====
/-
What the run reads and leaves, as whole arrays: the staged inputs are the argument arrays, and the result array ends
holding the block that the body computes.
-/
module

public import proofs.«01_k».proof.Proof.KernelIdeal.Launch

@[expose] public section

noncomputable section

namespace Cert.KernelIdeal.Exchange

open Cert.KernelIdeal Cert.KernelIdeal.Gen
open Idealize.ShloMosaic
open Idealize.ShloMosaic.TcCoe
open Idealize.ShloMosaic.Pipeline (Dat Cfg Window)

variable {F : FTy → Type} [FloatOps F]
variable (m : (ℓ : Loc nD τ sig) → Buf (Elt F) ℓ) (ρ : Dev nD → PrngReg)

/-- The one block of the first window is the device's whole part of `x`. -/
theorem xstg_eq (c : Dev nD) : xstg m ρ c = m ((c.tc : Thread nD τ).loc main_arg0) := by
  unfold xstg s₀
  exact Memref.read_access_unit_zero (Elt F) main_arg0 (funext fun a => by fin_cases a <;> decide) (fun a => by fin_cases a <;> decide) _

/-- The second window's is all of the embedding. -/
theorem tstg_eq (c : Dev nD) : tstg m ρ c = m ((c.tc : Thread nD τ).loc main_arg1) := by
  unfold tstg s₀
  exact Memref.read_access_unit_zero (Elt F) main_arg1 (funext fun a => by fin_cases a <;> decide) (fun a => by fin_cases a <;> decide) _

/-- The third window's is the device's whole part of the scale's weights. -/
theorem sstg_eq (c : Dev nD) : sstg m ρ c = m ((c.tc : Thread nD τ).loc main_arg2) := by
  unfold sstg s₀
  exact Memref.read_access_unit_zero (Elt F) main_arg2 (funext fun a => by fin_cases a <;> decide) (fun a => by fin_cases a <;> decide) _

/-- The fourth window's is the device's whole part of the shift's weights. -/
theorem hstg_eq (c : Dev nD) : hstg m ρ c = m ((c.tc : Thread nD τ).loc main_arg3) := by
  unfold hstg s₀
  exact Memref.read_access_unit_zero (Elt F) main_arg3 (funext fun a => by fin_cases a <;> decide) (fun a => by fin_cases a <;> decide) _

/-- Read through its window, the result array ends as the computed block. -/
theorem final_block (c : Dev nD) : (win0_4.blk (0 : Fin 1)).view.read (Elt F) (finalA m ρ c (4 : Fin 5)) = outAt m ρ c := by
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _

/-- The window is the whole array, so the array is the computed block. -/
theorem final_out (c : Dev nD) : finalA m ρ c (4 : Fin 5) = outAt m ρ c := by
  have h := final_block m ρ c
  have hr := fun f => Memref.read_access_unit_zero (Elt F) main_v1 (off := fun a => (win0_4.index (0 : Fin 1)) a * main_v1.ty.shape.size a)
    (funext fun a => by fin_cases a <;> decide) (fun a => by fin_cases a <;> decide) f
  exact (hr _).symm.trans h

end Cert.KernelIdeal.Exchange

end
-- ==== Proof.Value.Payload.lean ====
/-
What the kernel's three computations are at an index, over the extended reals: the two partial sums that a device
sends, their totals over the devices, and the result's element from the totals.
-/
module

public import proofs.«01_k».proof.Proof.Gen.KernelIdeal.Skeleton
public import Idealize.ShloMosaic.Lib.Pointwise

@[expose] public section

noncomputable section

namespace Cert.Norm

open Cert.KernelIdeal Cert.KernelIdeal.Gen
open Idealize.ShloMosaic

set_option maxRecDepth 16384

/-- The first partial sum of a device: a row's elements that it holds. -/
theorem part_sum (x : FVec Ideal S4x512x256 .f32) (z : Fin 1) (b : Fin 4) (s : Fin 512) :
    k0_pay2 (F := Ideal) x (ix4 z (0 : Fin 2) b s) = ∑ k : Fin 256, x (ix3 b s k) := by
  pointwise [k0_pay2, k0_pay1]

/-- The second: their squares. -/
theorem part_sq (x : FVec Ideal S4x512x256 .f32) (z : Fin 1) (b : Fin 4) (s : Fin 512) :
    k0_pay2 (F := Ideal) x (ix4 z (1 : Fin 2) b s) = ∑ k : Fin 256, x (ix3 b s k) * x (ix3 b s k) := by
  pointwise [k0_pay2, k0_pay1]

/-- The totals add the sixteen slots. -/
theorem totals (g : FVec Ideal S16x2x4x512 .f32) (a : Fin 2) (b : Fin 4) (s : Fin 512) :
    k0_pay3 (F := Ideal) g (ix3 a b s) = ∑ p : Fin 16, g (ix4 p a b s) := by
  pointwise [k0_pay3]

/-- The embedding's product with one column of a device's weights. -/
def proj (t : FVec Ideal S4x128 .f32) (u : FVec Ideal S128x256 .f32) (b : Fin 4) (k : Fin 256) : EReal :=
  ∑ e : Fin 128, t (ix2 b e) * u (ix2 e k)

/-- The result's element from the totals, the embedding and the weights. -/
theorem result_at (x : FVec Ideal S4x512x256 .f32) (g : FVec Ideal S2x4x512 .f32) (t : FVec Ideal S4x128 .f32)
    (u : FVec Ideal S128x256 .f32) (w : FVec Ideal S128x256 .f32) (b : Fin 4) (s : Fin 512) (k : Fin 256) :
    k0_pay4 (F := Ideal) (k0_pay1 x) g t u t w (ix3 b s k)
      = (x (ix3 b s k) - Ideal.div (g (ix3 0 b s)) (Ideal.ofBits .f32 0x45800000#32))
          * Ideal.rsqrt (Ideal.div (g (ix3 1 b s)) (Ideal.ofBits .f32 0x45800000#32)
              - Ideal.div (g (ix3 0 b s)) (Ideal.ofBits .f32 0x45800000#32) * Ideal.div (g (ix3 0 b s)) (Ideal.ofBits .f32 0x45800000#32)
              + Ideal.ofBits .f32 0x3727C5AC#32)
          * (1 + proj t u b k) + proj t w b k := by
  unfold proj
  pointwise [k0_pay4, k0_pay1]

end Cert.Norm

end
-- ==== Proof.Value.Moments.lean ====
/-
The mathematics: over a row of real numbers the mean of the squares less the square of the mean is the mean of the
squared distances from the mean, and multiplying by the reciprocal of a root is dividing by the root.
-/
module

public import Idealize.ShloMosaic.Lib.Pointwise

@[expose] public section

noncomputable section

namespace Cert.Norm

open Idealize.ShloMosaic

/-- Division by a real that is not zero is the reals' division. -/
theorem div_real {y : ℝ} (h : y ≠ 0) (x : ℝ) : Ideal.div (x : EReal) (y : EReal) = ((x / y : ℝ) : EReal) := by
  rw [Ideal.div_coe h, ← EReal.coe_mul, mul_one_div]

/-- A finite sum of reals is the reals' sum. -/
theorem sum_real {n : ℕ} (f : Fin n → ℝ) : (∑ k, (f k : EReal)) = ((∑ k, f k : ℝ) : EReal) :=
  (map_sum (⟨⟨Real.toEReal, EReal.coe_zero⟩, EReal.coe_add⟩ : ℝ →+ EReal) f Finset.univ).symm

/-- The row length's pattern is the number 4096. -/
theorem length_word : Ideal.ofBits .f32 0x45800000#32 = ((4096 : ℝ) : EReal) := by
  simp [Ideal.ofBits, Ideal.ieee, -EReal.coe_mul]
  norm_num

/-- The added constant's pattern is a positive real. -/
theorem eps_word : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The bound of the precondition is infinity. -/
theorem top_word : Ideal.ofBits .f32 0x7F800000#32 = ⊤ := by
  simp [Ideal.ofBits, Ideal.ieee]

/-- The mean of the squares less the mean's square is the mean squared distance. -/
theorem spread {n : ℕ} (hn : (n : ℝ) ≠ 0) (X : Fin n → ℝ) :
    (∑ k, X k * X k) / n - (∑ k, X k) / n * ((∑ k, X k) / n)
      = (∑ k, (X k - (∑ k, X k) / n) * (X k - (∑ k, X k) / n)) / n := by
  set M := (∑ k, X k) / n with hM
  have hS : (∑ k, X k) = M * n := by rw [hM]; field_simp
  have h : ∑ k, (X k - M) * (X k - M) = (∑ k, X k * X k) - M * M * n := by
    have e : ∀ k, (X k - M) * (X k - M) = X k * X k - 2 * M * X k + M * M := fun k => by ring
    simp only [e, Finset.sum_add_distrib, Finset.sum_sub_distrib, ← Finset.mul_sum, Finset.sum_const, Finset.card_univ,
      Fintype.card_fin, nsmul_eq_mul, hS]
    ring
  rw [h]
  field_simp

/-- Scaling by the reciprocal root of a positive real is dividing by its root. -/
theorem scale_eq (a : ℝ) {v : ℝ} (hv : 0 < v) : (a : EReal) * Ideal.rsqrt (v : EReal) = Ideal.div (a : EReal) (Ideal.sqrt (v : EReal)) := by
  rw [Ideal.rsqrt_coe, Ideal.sqrt_coe, if_neg (not_lt.2 hv.le), if_neg hv.ne', if_neg (not_lt.2 hv.le),
    div_real (Real.sqrt_pos.2 hv).ne', ← EReal.coe_mul, div_eq_mul_inv]

/-- For a row of reals the two ways of normalising an element agree: by the two moments and the reciprocal root, and by
    the distances from the mean and the root. -/
theorem normalise_eq (x : Fin 4096 → EReal) (hx : ∀ k, ∃ r : ℝ, x k = (r : EReal)) (j : Fin 4096) (d : Fin 4096 → EReal) (μ n v : EReal)
    (hμ : μ = Ideal.div (∑ k, x k) (Ideal.ofBits .f32 0x45800000#32)) (hd : ∀ k, d k = x k - μ)
    (hn : n = Ideal.ofBits .f32 0x45800000#32 - ((((0#32 : BitVec 32).toInt : ℤ) : ℝ) : EReal))
    (hv : v = Scalar.select (Ideal.cmp .ogt n 0) (Ideal.div (∑ k, d k * d k) n) (Ideal.ofBits .f32 0x7FC00000#32)) :
    (x j - μ) * Ideal.rsqrt (Ideal.div (∑ k, x k * x k) (Ideal.ofBits .f32 0x45800000#32) - μ * μ + Ideal.ofBits .f32 0x3727C5AC#32)
      = Ideal.div (d j) (Ideal.sqrt (v + Ideal.ofBits .f32 0x3727C5AC#32)) := by
  choose X hX using hx
  obtain ⟨e, he, hE⟩ := eps_word
  have hc : (4096 : ℝ) ≠ 0 := by norm_num
  have hμ' : μ = (((∑ k, X k) / 4096 : ℝ) : EReal) := by
    rw [hμ, length_word, ← div_real hc, ← sum_real]; simp only [hX]
  set M := (∑ k, X k) / 4096 with hM
  have hd' : ∀ k, d k = ((X k - M : ℝ) : EReal) := fun k => by rw [hd, hX, hμ', EReal.coe_sub]
  have hn' : n = ((4096 : ℝ) : EReal) := by
    rw [hn, length_word, ← EReal.coe_sub]; congr 1; norm_num
  have hv' : v = (((∑ k, (X k - M) * (X k - M)) / 4096 : ℝ) : EReal) := by
    have hp : Ideal.cmp .ogt n 0 = 1#1 := by
      have : (0 : EReal) < n := by rw [hn']; exact_mod_cast (by norm_num : (0 : ℝ) < 4096)
      simp [Ideal.cmp, this]
    rw [hv, hp, ValueIdx.select_one, hn', ← div_real hc, ← sum_real]
    simp only [hd', EReal.coe_mul]
  have hq : Ideal.div (∑ k, x k * x k) (Ideal.ofBits .f32 0x45800000#32) - μ * μ = (((∑ k, (X k - M) * (X k - M)) / 4096 : ℝ) : EReal) := by
    have hs := spread (n := 4096) (by norm_num) X
    push_cast at hs
    rw [← hM] at hs
    rw [← hs, EReal.coe_sub, EReal.coe_mul, ← hμ', ← div_real hc, ← sum_real, length_word]
    simp only [hX, EReal.coe_mul]
  have h0 : 0 ≤ (∑ k, (X k - M) * (X k - M)) / 4096 :=
    div_nonneg (Finset.sum_nonneg fun k _ => mul_self_nonneg _) (by norm_num)
  rw [hq, hE, hv', ← EReal.coe_add, hd', hX, hμ', ← EReal.coe_sub]
  exact scale_eq _ (by linarith)

/-- A row of 4096 summed in sixteen runs of 256. -/
theorem sum_blocks (f : Fin 4096 → EReal) :
    (∑ p : Fin 16, ∑ k : Fin 256, f ⟨p.val * 256 + k.val, by omega⟩) = ∑ j, f j := by
  rw [← Fintype.sum_prod_type']
  refine Fintype.sum_equiv (finProdFinEquiv (m := 16) (n := 256)) _ _ fun q => ?_
  congr 1
  apply Fin.ext
  simp [finProdFinEquiv]
  omega

end Cert.Norm

end
-- ==== Proof.Value.Reference.lean ====
/-
What the reference computes: its result as one term of its arguments, and that term at an index.
-/
module

public import proofs.«01_k».proof.Proof.Gen.ReferenceIdeal.Run
public import Idealize.ShloMosaic.Lib.Pointwise

@[expose] public section

noncomputable section

namespace Cert.Norm

open Cert.ReferenceIdeal Cert.ReferenceIdeal.Facts₀
open Idealize.ShloMosaic Idealize.ShloMosaic.TcCoe Idealize.SL.Sem

set_option maxRecDepth 16384

/-- The rows' means. -/
def rMean (x : FVec Ideal S4x512x4096 .f32) : FVec Ideal S4x512x1 .f32 :=
  Host.divf (broadcastInDim S4x512x1 ![0, 1] bcast_S4x512_S4x512x1_0_1
      (Host.reduceAdd x (constant S_ .f32 0x00000000#32) reducesTo_S4x512x4096_S4x512_d2 h_S_))
    (broadcastInDim S4x512x1 ![] bcast_S_S4x512x1 (constant S_ .f32 0x45800000#32))

/-- The elements less their row's mean. -/
def rDev (x : FVec Ideal S4x512x4096 .f32) : FVec Ideal S4x512x4096 .f32 :=
  subf x (broadcastInDim S4x512x4096 ![0, 1, 2] bcast_S4x512x1_S4x512x4096_0_1_2 (rMean x))

/-- How many elements the variance divides by. -/
def rCount : FVec Ideal S_ .f32 := subf (constant S_ .f32 0x45800000#32) (sitofp .f32 (constantI S_ 32 0#32))

/-- The rows' variances. -/
def rVar (x : FVec Ideal S4x512x4096 .f32) : FVec Ideal S4x512x1 .f32 :=
  select (broadcastInDim S4x512x1 ![] bcast_S_S4x512x1 (cmpf .ogt rCount (constant S_ .f32 0x00000000#32)))
    (Host.divf (broadcastInDim S4x512x1 ![0, 1] bcast_S4x512_S4x512x1_0_1
        (Host.reduceAdd (mulf (rDev x) (rDev x)) (constant S_ .f32 0x00000000#32) reducesTo_S4x512x4096_S4x512_d2 h_S_))
      (broadcastInDim S4x512x1 ![] bcast_S_S4x512x1 rCount))
    (broadcastInDim S4x512x1 ![] bcast_S_S4x512x1 (id (constant S_ .f32 0x7FC00000#32)))

/-- The elements, normalised. -/
def rNorm (x : FVec Ideal S4x512x4096 .f32) : FVec Ideal S4x512x4096 .f32 :=
  Host.divf (rDev x) (broadcastInDim S4x512x4096 ![0, 1, 2] bcast_S4x512x1_S4x512x4096_0_1_2
    (Host.sqrt (addf (rVar x) (broadcastInDim S4x512x1 ![] bcast_S_S4x512x1 (constant S_ .f32 0x3727C5AC#32)))))

/-- The embedding's product with a weight matrix. -/
def rProj (t : FVec Ideal S4x128 .f32) (u : FVec Ideal S128x4096 .f32) : FVec Ideal S4x1x4096 .f32 :=
  broadcastInDim S4x1x4096 ![0, 2] bcast_S4x4096_S4x1x4096_0_2
    (Host.dotGeneral dot_S4x128_S128x4096_S4x4096_1_0_0_1_n_n none t u)

/-- The reference's result. -/
def refOut (x : FVec Ideal S4x512x4096 .f32) (t : FVec Ideal S4x128 .f32) (u : FVec Ideal S128x4096 .f32)
    (w : FVec Ideal S128x4096 .f32) : FVec Ideal S4x512x4096 .f32 :=
  addf (mulf (rNorm x) (broadcastInDim S4x512x4096 ![0, 1, 2] bcast_S4x1x4096_S4x512x4096_0_1_2
      (addf (broadcastInDim S4x1x4096 ![] bcast_S_S4x1x4096 (constant S_ .f32 0x3F800000#32)) (rProj t u))))
    (broadcastInDim S4x512x4096 ![0, 1, 2] bcast_S4x1x4096_S4x512x4096_0_1_2 (rProj t w))

/-- A row's mean is its sum over its length. -/
theorem rMean_at (x : FVec Ideal S4x512x4096 .f32) (b : Fin 4) (s : Fin 512) (z : Fin 1) :
    rMean x (ix3 b s z) = Ideal.div (∑ k : Fin 4096, x (ix3 b s k)) (Ideal.ofBits .f32 0x45800000#32) := by
  pointwise [rMean]

/-- An element's distance from it. -/
theorem rDev_at (x : FVec Ideal S4x512x4096 .f32) (b : Fin 4) (s : Fin 512) (k : Fin 4096) :
    rDev x (ix3 b s k) = x (ix3 b s k) - rMean x (ix3 b s 0) := by
  pointwise [rDev]

/-- The count is a row's length less nothing. -/
theorem rCount_at (j : S_.Idx) : rCount j = Ideal.ofBits .f32 0x45800000#32 - ((((0#32 : BitVec 32).toInt : ℤ) : ℝ) : EReal) := by
  pointwise [rCount]
  rfl

/-- A row's variance, the choice still open. -/
theorem rVar_at (x : FVec Ideal S4x512x4096 .f32) (b : Fin 4) (s : Fin 512) (z : Fin 1) :
    rVar x (ix3 b s z) = Scalar.select (Ideal.cmp .ogt (rCount ix0) 0)
      (Ideal.div (∑ k : Fin 4096, rDev x (ix3 b s k) * rDev x (ix3 b s k)) (rCount ix0)) (Ideal.ofBits .f32 0x7FC00000#32) := by
  pointwise [rVar]
  rfl

/-- An element's normalised value. -/
theorem rNorm_at (x : FVec Ideal S4x512x4096 .f32) (b : Fin 4) (s : Fin 512) (k : Fin 4096) :
    rNorm x (ix3 b s k) = Ideal.div (rDev x (ix3 b s k)) (Ideal.sqrt (rVar x (ix3 b s 0) + Ideal.ofBits .f32 0x3727C5AC#32)) := by
  pointwise [rNorm]

/-- A product with a column of the weights. -/
theorem rProj_at (t : FVec Ideal S4x128 .f32) (u : FVec Ideal S128x4096 .f32) (b : Fin 4) (z : Fin 1) (k : Fin 4096) :
    rProj t u (ix3 b z k) = ∑ e : Fin 128, t (ix2 b e) * u (ix2 e k) := by
  pointwise [rProj]

/-- The result's element. -/
theorem refOut_at (x : FVec Ideal S4x512x4096 .f32) (t : FVec Ideal S4x128 .f32) (u w : FVec Ideal S128x4096 .f32)
    (b : Fin 4) (s : Fin 512) (k : Fin 4096) :
    refOut x t u w (ix3 b s k) = rNorm x (ix3 b s k) * (1 + rProj t u (ix3 b 0 k)) + rProj t w (ix3 b 0 k) := by
  pointwise [refOut]

/-- The reference's run leaves this result, and its arguments as they were. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21) = refOut (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1, (h c).2⟩) (Cert.ReferenceIdeal.Value.run (F := Ideal) m ρ)

end Cert.Norm

end
-- ==== Proof.Value.Equal.lean ====
/-
The claim on values: what the kernel's run leaves on each device is the device's block of the reference's result.
-/
module

public import proofs.«01_k».proof.Proof.KernelIdeal.Result
public import proofs.«01_k».proof.Proof.Value.Payload
public import proofs.«01_k».proof.Proof.Value.Moments
public import proofs.«01_k».proof.Proof.Value.Reference
public import Idealize.ShloMosaic.Lib.Layout

@[expose] public section

noncomputable section

namespace Cert.Norm

open Idealize.ShloMosaic
open Idealize.ShloMosaic.TcCoe
open Cert.KernelIdeal Cert.KernelIdeal.Gen Cert.KernelIdeal.Exchange

set_option maxRecDepth 16384

/-- The shape of the whole array of `x`, and of the result. -/
abbrev Whole : Shape := ⟨3, ![4, 512, 4096]⟩

/-- The shape of a whole weight matrix. -/
abbrev Weights : Shape := ⟨2, ![128, 4096]⟩

/-- Sixteen blocks of a device's shape along the last dimension are the whole of `x`. -/
theorem tiles3 : Layout.Tiles S4x512x256 Whole 2 16 := by decide

/-- And so of the weights. -/
theorem tiles2 : Layout.Tiles S128x256 Weights 1 16 := by decide

/-- Where column `k` of device `c`'s block lies in the whole. -/
def col (c : Fin 16) (k : Fin 256) : Fin 4096 := ⟨c.val * 256 + k.val, by omega⟩

/-- Every column of the whole lies in some device's block. -/
theorem col_onto (j : Fin 4096) : ∃ c k, col c k = j :=
  ⟨⟨j.val / 256, by omega⟩, ⟨j.val % 256, by omega⟩, Fin.ext (by simp only [col]; omega)⟩

/-- A device's block of a whole array, at an index. -/
theorem block3_at (v : Whole.Idx → EReal) (h : Layout.Tiles S4x512x256 Whole 2 16) (c : Fin 16) (b : Fin 4) (s : Fin 512) (k : Fin 256) :
    Layout.block S4x512x256 Whole 2 16 c v h (ix3 b s k) = v (ix3 b s (col c k)) := by
  rw [Layout.block_apply]
  congr 1
  funext a
  apply Fin.ext
  rw [Layout.Tiles.idx_val]
  fin_cases a <;> simp [col]

/-- A device's block of a whole weight matrix, at an index. -/
theorem block2_at (v : Weights.Idx → EReal) (h : Layout.Tiles S128x256 Weights 1 16) (c : Fin 16) (e : Fin 128) (k : Fin 256) :
    Layout.block S128x256 Weights 1 16 c v h (ix2 e k) = v (ix2 e (col c k)) := by
  rw [Layout.block_apply]
  congr 1
  funext a
  apply Fin.ext
  rw [Layout.Tiles.idx_val]
  fin_cases a <;> simp [col]

section
variable (m : (ℓ : Loc nD τ sig) → Buf (Elt Ideal) ℓ) (ρ : Dev nD → PrngReg)
variable (x : Whole.Idx → EReal) (t : FVec Ideal S4x128 .f32) (u w : Weights.Idx → EReal)
variable (hx : ∀ c : Dev nD, m ((c.tc : Thread nD τ).loc main_arg0) = Layout.block S4x512x256 Whole 2 16 c x tiles3)

include hx in
/-- The first total is the whole row's sum. -/
theorem total_sum (b : Fin 4) (s : Fin 512) :
    k0_pay3 (F := Ideal) (gath m ρ) (ix3 0 b s) = ∑ j : Fin 4096, x (ix3 b s j) := by
  rw [totals, ← sum_blocks]
  refine Finset.sum_congr rfl fun p _ => ?_
  have h : gath m ρ (ix4 p (0 : Fin 2) b s) = k0_pay2 (F := Ideal) (xstg m ρ p) (ix4 (0 : Fin 1) (0 : Fin 2) b s) := by
    unfold gath
    congr 1
    funext a
    fin_cases a <;> rfl
  rw [h, part_sum, xstg_eq, hx p]
  exact Finset.sum_congr rfl fun k _ => block3_at x _ p b s k

include hx in
/-- The second is the whole row's sum of squares. -/
theorem total_sq (b : Fin 4) (s : Fin 512) :
    k0_pay3 (F := Ideal) (gath m ρ) (ix3 1 b s) = ∑ j : Fin 4096, x (ix3 b s j) * x (ix3 b s j) := by
  rw [totals, ← sum_blocks fun j => x (ix3 b s j) * x (ix3 b s j)]
  refine Finset.sum_congr rfl fun p _ => ?_
  have h : gath m ρ (ix4 p (1 : Fin 2) b s) = k0_pay2 (F := Ideal) (xstg m ρ p) (ix4 (0 : Fin 1) (1 : Fin 2) b s) := by
    unfold gath
    congr 1
    funext a
    fin_cases a <;> rfl
  rw [h, part_sq, xstg_eq, hx p]
  exact Finset.sum_congr rfl fun k _ => by rw [block3_at]; rfl

/-- A device's product with its columns is the whole product's, at them. -/
theorem proj_block (h : Layout.Tiles S128x256 Weights 1 16) (c : Fin 16) (b : Fin 4) (k : Fin 256) :
    proj t (Layout.block S128x256 Weights 1 16 c u h) b k = rProj t u (ix3 b 0 (col c k)) := by
  rw [rProj_at, proj]
  exact Finset.sum_congr rfl fun e _ => by rw [block2_at]

variable (ht : ∀ c : Dev nD, m ((c.tc : Thread nD τ).loc main_arg1) = t)
  (hu : ∀ c : Dev nD, m ((c.tc : Thread nD τ).loc main_arg2) = Layout.block S128x256 Weights 1 16 c u tiles2)
  (hw : ∀ c : Dev nD, m ((c.tc : Thread nD τ).loc main_arg3) = Layout.block S128x256 Weights 1 16 c w tiles2)
  (hf : ∀ b s j, ∃ r : ℝ, x (ix3 b s j) = (r : EReal))

include hx ht hu hw hf in
/-- An element that a device leaves is the reference's at its place in the whole, if `x` is finite. -/
theorem out_at (c : Dev nD) (b : Fin 4) (s : Fin 512) (k : Fin 256) :
    outAt m ρ c (ix3 b s k) = refOut x t u w (ix3 b s (col c k)) := by
  have h1 : xstg m ρ c (ix3 b s k) = x (ix3 b s (col c k)) := by
    rw [xstg_eq, hx]; exact block3_at x _ c b s k
  have h2 : proj (tstg m ρ c) (sstg m ρ c) b k = rProj t u (ix3 b 0 (col c k)) := by
    rw [tstg_eq, sstg_eq, ht, hu]; exact proj_block t u _ c b k
  have h3 : proj (tstg m ρ c) (hstg m ρ c) b k = rProj t w (ix3 b 0 (col c k)) := by
    rw [tstg_eq, hstg_eq, ht, hw]; exact proj_block t w _ c b k
  refine (result_at _ _ _ _ _ b s k).trans ?_
  rw [h1, h2, h3, total_sum m ρ x hx, total_sq m ρ x hx, refOut_at, rNorm_at]
  rw [← normalise_eq (fun j => x (ix3 b s j)) (hf b s) (col c k) (fun j => rDev x (ix3 b s j)) (rMean x (ix3 b s 0)) (rCount ix0) _
    (rMean_at x b s 0) (fun j => rDev_at x b s j) (rCount_at ix0) (rVar_at x b s 0), rMean_at]

include hx ht hu hw hf in
/-- What a device leaves is its block of the reference's result. -/
theorem out_eq (c : Dev nD) : outAt m ρ c = Layout.block S4x512x256 Whole 2 16 c (refOut x t u w) tiles3 := by
  funext i
  have e : ∀ i : S4x512x256.Idx, outAt m ρ c i = Layout.block S4x512x256 Whole 2 16 c (refOut x t u w) tiles3 i := fun i => by
    rw [eq_ix3 i]
    exact (out_at m ρ x t u w hx ht hu hw hf c _ _ _).trans (block3_at (refOut x t u w) _ c _ _ _).symm
  exact e i
end

/-- An extended real whose size is below infinity is a real. -/
theorem real_of_abs (v : EReal) (h : max v (-v) < ⊤) : ∃ r : ℝ, v = (r : EReal) := by
  induction v with
  | bot => simp at h
  | top => simp at h
  | coe r => exact ⟨r, rfl⟩

end Cert.Norm

end
-- ==== Proof.Value.Finite.lean ====
/-
What the precondition says over the extended reals: every element of every device's part of `x` is a real number, and
so is every element of the whole.
-/
module

public import proofs.«01_k».proof.Defs
public import proofs.«01_k».proof.Proof.Value.Equal

@[expose] public section

noncomputable section

namespace Cert.Norm

open Idealize.ShloMosaic
open Idealize.ShloMosaic.TcCoe

set_option maxRecDepth 16384

/-- The precondition's function reads one bit at an index: whether the element's size is below infinity. -/
theorem fn_at [Cert.Pre_finite_x_Kernel.Facts] (x : FVec Ideal Cert.Pre_finite_x_Kernel.S4x512x256 .f32) (t : FVec Ideal Cert.Pre_finite_x_Kernel.S4x128 .f32)
    (u w : FVec Ideal Cert.Pre_finite_x_Kernel.S128x256 .f32) (b : Fin 4) (s : Fin 512) (k : Fin 256) :
    Cert.Pre_finite_x_Kernel.fn (F := Ideal) x t u w (ix3 b s k)
      = Ideal.cmp .olt (max (x (ix3 b s k)) (-(x (ix3 b s k)))) (Ideal.ofBits .f32 0x7F800000#32) := by
  unfold Cert.Pre_finite_x_Kernel.fn
  rfl

/-- An element passes only if it is a real number. -/
theorem real_of_cmp (v : EReal) (h : Ideal.cmp .olt (max v (-v)) (Ideal.ofBits .f32 0x7F800000#32) = 1#1) : ∃ r : ℝ, v = (r : EReal) := by
  rw [top_word] at h
  refine real_of_abs v ?_
  by_contra hn
  simp [Ideal.cmp, hn] at h

/-- Under the precondition every element of the whole array of `x` is a real number. -/
theorem whole_real [Cert.Pre_finite_x_Kernel.Facts]
    (m : (ℓ : Loc Cert.KernelIdeal.nD Cert.KernelIdeal.τ Cert.KernelIdeal.sig) → Buf (Elt Ideal) ℓ) (hp : Pre_KernelIdeal m)
    (x : Whole.Idx → EReal)
    (hx : ∀ c : Dev Cert.KernelIdeal.nD, m ((c.tc : Thread Cert.KernelIdeal.nD Cert.KernelIdeal.τ).loc Cert.KernelIdeal.main_arg0)
      = Layout.block Cert.KernelIdeal.S4x512x256 Whole 2 16 c x tiles3)
    (b : Fin 4) (s : Fin 512) (j : Fin 4096) : ∃ r : ℝ, x (ix3 b s j) = (r : EReal) := by
  obtain ⟨c, k, rfl⟩ := col_onto j
  have h := congrFun (hp c) (ix3 b s k)
  rw [fn_at, hx c] at h
  have e : Layout.block Cert.KernelIdeal.S4x512x256 Whole 2 16 c x tiles3 (ix3 b s k) = x (ix3 b s (col c k)) := block3_at x _ c b s k
  rw [← e]
  exact real_of_cmp _ h

end Cert.Norm

end
-- ==== Proof.lean ====
/-
The certificate of the sixteen-device adaptive layer norm: the two kernel programs and the reference each end without
fault with their arguments kept and every counter at zero, and for a finite `x` the devices' results are the blocks of
the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_x_Kernel
public import proofs.«01_k».proof.Proof.Gen.Pre_finite_x_ReferenceIdeal
public import proofs.«01_k».proof.Proof.Kernel.Launch
public import proofs.«01_k».proof.Proof.KernelIdeal.Result
public import proofs.«01_k».proof.Proof.Value.Finite
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments, and has no counter that could end elsewhere than at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The devices' results are the blocks of the reference's result: the kernel computes the layer norm that the reference
    states, for every finite `x`, embedding and weights arbitrary. -/
theorem algebraic : Cert.algebraic_KernelIdeal_ReferenceIdeal := fun m g m' g' hp hin =>
  ⟨Cert.Norm.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono (fun _ h c =>
      ⟨(h.1 c 4).trans ((Cert.KernelIdeal.Exchange.final_out m g c).trans
          (Cert.Norm.out_eq m g _ _ _ _ (fun c => (hin c).1) (fun c => (hin c).2.1) (fun c => (hin c).2.2.1) (fun c => (hin c).2.2.2)
            (Cert.Norm.whole_real m hp _ fun c => (hin c).1) c)),
        (h.1 c 0).trans (Cert.KernelIdeal.Exchange.final_arg0 m g c), (h.1 c 1).trans (Cert.KernelIdeal.Exchange.final_arg1 m g c),
        (h.1 c 2).trans (Cert.KernelIdeal.Exchange.final_arg2 m g c), (h.1 c 3).trans (Cert.KernelIdeal.Exchange.final_arg3 m g c)⟩)
      (Cert.KernelIdeal.Exchange.run_main m g),
    (θ_run Cert.ReferenceIdeal.defs _ _).mono (fun _ h => h 0) (Cert.Norm.reference_run m' g')⟩

theorem claim : Cert.Claim := ⟨Cert.Kernel.Gen.facts, Cert.KernelIdeal.Gen.facts, Cert.ReferenceIdeal.Gen.facts,
  Cert.Pre_finite_x_Kernel.Gen.facts, Cert.Pre_finite_x_ReferenceIdeal.Gen.facts,
  fun m g _ => Cert.Kernel.Exchange.run_frame m g,
  fun m g _ => Cert.KernelIdeal.Exchange.run_frame m g,
  fun m g _ => reference_frame m g,
  fun m g _ => reference_frame m g,
  trivial,
  algebraic⟩

end Cert.Proof

end
